-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_fit [hPre_inputs_fit : Cert.Pre_inputs_fit.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_fit [hPre_inputs_fit : Cert.Pre_inputs_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_fit [hKernelIdeal : Cert.KernelIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_fit [hReferenceIdeal : Cert.ReferenceIdeal.Facts] [hPre_inputs_fit : Cert.Pre_inputs_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_fit [hKernelIdeal : Cert.KernelIdeal.Facts] [hReferenceIdeal : Cert.ReferenceIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_fit : Cert.Pre_inputs_fit.Facts),
    quiescent_Kernel (hKernel := hKernel)
    ∧ quiescent_KernelIdeal (hKernelIdeal := hKernelIdeal)
    ∧ quiescent_KernelIdeal_pre_inputs_fit (hKernelIdeal := hKernelIdeal) (hPre_inputs_fit := hPre_inputs_fit)
    ∧ quiescent_ReferenceIdeal (hReferenceIdeal := hReferenceIdeal)
    ∧ quiescent_ReferenceIdeal_pre_inputs_fit (hReferenceIdeal := hReferenceIdeal) (hPre_inputs_fit := hPre_inputs_fit)
    ∧ preserves_Kernel_KernelIdeal
    ∧ algebraic_KernelIdeal_ReferenceIdeal_pre_inputs_fit (hKernelIdeal := hKernelIdeal) (hReferenceIdeal := hReferenceIdeal) (hPre_inputs_fit := hPre_inputs_fit)
-- ==== Pre_inputs_fit.lean ====
abbrev S16384x100 : Shape := ⟨2, ![16384, 100]⟩
abbrev S26x100000x32 : Shape := ⟨3, ![26, 100000, 32]⟩
abbrev S74x32 : Shape := ⟨2, ![74, 32]⟩
abbrev S32 : Shape := ⟨1, ![32]⟩
abbrev S16384x26 : Shape := ⟨2, ![16384, 26]⟩
abbrev S_ : Shape := ⟨0, ![]⟩
abbrev S16384x74 : Shape := ⟨2, ![16384, 74]⟩

class Facts : Prop where
  slices_S16384x100_S16384x26_0_0 : S16384x100.Slices ![0, 0] S16384x26
  bcast_S_S16384x26 : S_.BroadcastsInDim S16384x26 (![] : Fin 0 → Fin S16384x26.rank)
  reducesTo_S16384x26_S_d0_1 : S16384x26.ReducesTo [0, 1] S_
  h_S_ : 0 < S_.numel
  slices_S16384x100_S16384x74_0_26 : S16384x100.Slices ![0, 26] S16384x74
  bcast_S_S16384x74 : S_.BroadcastsInDim S16384x74 (![] : Fin 0 → Fin S16384x74.rank)
  reducesTo_S16384x74_S_d0_1 : S16384x74.ReducesTo [0, 1] S_
  bcast_S_S74x32 : S_.BroadcastsInDim S74x32 (![] : Fin 0 → Fin S74x32.rank)
  reducesTo_S74x32_S_d0_1 : S74x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg3 : FVec F S74x32 .f32) (main_arg4 : FVec F S32 .f32) (main_v15 : IVec S_ 1) (main_v16 : FVec F S74x32 .f32) (main_v17 : FVec F S74x32 .f32) : IVec S_ 1 :=
  let main_v18 : IVec S74x32 1 := cmpf .olt main_v16 main_v17
  let main_c_4 : IVec S_ 1 := constantI S_ 1 1#1
  let main_v19 : IVec S_ 1 := (fun x v => Host.reduce IntOp.andi x v reducesTo_S74x32_S_d0_1 h_S_) main_v18 main_c_4
  let main_v20 : IVec S_ 1 := andi main_v15 main_v19
  let main_v21 : FVec F S74x32 .f32 := Host.absf main_arg3
  let main_cst_5 : FVec F S_ .f32 := constant S_ .f32 0x7F800000#32
  let main_v22 : FVec F S74x32 .f32 := broadcastInDim S74x32 ![] bcast_S_S74x32 main_cst_5
  let main_v23 : IVec S74x32 1 := cmpf .olt main_v21 main_v22
  let main_c_6 : IVec S_ 1 := constantI S_ 1 1#1
  let main_v24 : IVec S_ 1 := (fun x v => Host.reduce IntOp.andi x v reducesTo_S74x32_S_d0_1 h_S_) main_v23 main_c_6
  let main_v25 : IVec S_ 1 := andi main_v20 main_v24
  let main_v26 : FVec F S32 .f32 := Host.absf main_arg4
  let main_cst_7 : FVec F S_ .f32 := constant S_ .f32 0x7F800000#32
  let main_v27 : FVec F S32 .f32 := broadcastInDim S32 ![] bcast_S_S32 main_cst_7
  let main_v28 : IVec S32 1 := cmpf .olt main_v26 main_v27
  let main_c_8 : IVec S_ 1 := constantI S_ 1 1#1
  let main_v29 : IVec S_ 1 := (fun x v => Host.reduce IntOp.andi x v reducesTo_S32_S_d0 h_S_) main_v28 main_c_8
  let main_v30 : IVec S_ 1 := andi main_v25 main_v29
  main_v30

def fn {F : FTy → Type} [FloatOps F] (main_arg0 : FVec F S16384x100 .f32) (main_arg1 : FVec F S26x100000x32 .f32) (main_arg2 : FVec F S74x32 .f32) (main_arg3 : FVec F S74x32 .f32) (main_arg4 : FVec F S32 .f32) (main_arg5 : FVec F S32 .f32) : IVec S_ 1 :=
  let main_v0 : FVec F S16384x26 .f32 := (extractStridedSlice S16384x26 ![0, 0] · slices_S16384x100_S16384x26_0_0) main_arg0
  let main_v1 : FVec F S16384x26 .f32 := Host.floor main_v0
  let main_v2 : IVec S16384x26 1 := cmpf .oeq main_v1 main_v0
  let main_cst : FVec F S_ .f32 := constant S_ .f32 0x00000000#32
  let main_v3 : FVec F S16384x26 .f32 := broadcastInDim S16384x26 ![] bcast_S_S16384x26 main_cst
  let main_v4 : IVec S16384x26 1 := cmpf .oge main_v0 main_v3
  let main_v5 : IVec S16384x26 1 := andi main_v2 main_v4
  let main_cst_0 : FVec F S_ .f32 := constant S_ .f32 0x43000000#32
  let main_v6 : FVec F S16384x26 .f32 := broadcastInDim S16384x26 ![] bcast_S_S16384x26 main_cst_0
  let main_v7 : IVec S16384x26 1 := cmpf .olt main_v0 main_v6
  let main_v8 : IVec S16384x26 1 := andi main_v5 main_v7
  let main_c : IVec S_ 1 := constantI S_ 1 1#1
  let main_v9 : IVec S_ 1 := (fun x v => Host.reduce IntOp.andi x v reducesTo_S16384x26_S_d0_1 h_S_) main_v8 main_c
  let main_v10 : FVec F S16384x74 .f32 := (extractStridedSlice S16384x74 ![0, 26] · slices_S16384x100_S16384x74_0_26) main_arg0
  let main_v11 : FVec F S16384x74 .f32 := Host.absf main_v10
  let main_cst_1 : FVec F S_ .f32 := constant S_ .f32 0x7F800000#32
  let main_v12 : FVec F S16384x74 .f32 := broadcastInDim S16384x74 ![] bcast_S_S16384x74 main_cst_1
  let main_v13 : IVec S16384x74 1 := cmpf .olt main_v11 main_v12
  let main_c_2 : IVec S_ 1 := constantI S_ 1 1#1
  let main_v14 : IVec S_ 1 := (fun x v => Host.reduce IntOp.andi x v reducesTo_S16384x74_S_d0_1 h_S_) main_v13 main_c_2
  let main_v15 : IVec S_ 1 := andi main_v9 main_v14
  let main_v16 : FVec F S74x32 .f32 := Host.absf main_arg2
  let main_cst_3 : FVec F S_ .f32 := constant S_ .f32 0x7F800000#32
  let main_v17 : FVec F S74x32 .f32 := broadcastInDim S74x32 ![] bcast_S_S74x32 main_cst_3
  fn_part1 (F := F) main_arg3 main_arg4 main_v15 main_v16 main_v17
-- ==== Kernel.lean ====
abbrev S16384x100 : Shape := ⟨2, ![16384, 100]⟩
abbrev S26x100000x32 : Shape := ⟨3, ![26, 100000, 32]⟩
abbrev S74x32 : Shape := ⟨2, ![74, 32]⟩
abbrev S32 : Shape := ⟨1, ![32]⟩
abbrev S26x128x32 : Shape := ⟨3, ![26, 128, 32]⟩
abbrev S_ : Shape := ⟨0, ![]⟩
abbrev S26x128 : Shape := ⟨2, ![26, 128]⟩
abbrev S26x128x1 : Shape := ⟨3, ![26, 128, 1]⟩
abbrev S1x1x32 : Shape := ⟨3, ![1, 1, 32]⟩
abbrev S4x4 : Shape := ⟨2, ![4, 4]⟩
abbrev S2x128x32 : Shape := ⟨3, ![2, 128, 32]⟩
abbrev S28x128x32 : Shape := ⟨3, ![28, 128, 32]⟩
abbrev S7x4x128x32 : Shape := ⟨4, ![7, 4, 128, 32]⟩
abbrev S7x4x128x1x32 : Shape := ⟨5, ![7, 4, 128, 1, 32]⟩
abbrev S1x4x1x4x1 : Shape := ⟨5, ![1, 4, 1, 4, 1]⟩
abbrev S7x4x128x4x32 : Shape := ⟨5, ![7, 4, 128, 4, 32]⟩
abbrev S7x512x128 : Shape := ⟨3, ![7, 512, 128]⟩
abbrev S28x28 : Shape := ⟨2, ![28, 28]⟩
abbrev S28x28x128 : Shape := ⟨3, ![28, 28, 128]⟩
abbrev S28x3584 : Shape := ⟨2, ![28, 3584]⟩
abbrev S128 : Shape := ⟨1, ![128]⟩
abbrev S1x128 : Shape := ⟨2, ![1, 128]⟩
abbrev S28x128 : Shape := ⟨2, ![28, 128]⟩
abbrev S3584 : Shape := ⟨1, ![3584]⟩
abbrev S1x3584 : Shape := ⟨2, ![1, 3584]⟩
abbrev S74 : Shape := ⟨1, ![74]⟩
abbrev S74x1 : Shape := ⟨2, ![74, 1]⟩
abbrev S1x74 : Shape := ⟨2, ![1, 74]⟩
abbrev S1x32 : Shape := ⟨2, ![1, 32]⟩
abbrev S2432 : Shape := ⟨1, ![2432]⟩
abbrev S1x2432 : Shape := ⟨2, ![1, 2432]⟩
abbrev S32x1 : Shape := ⟨2, ![32, 1]⟩
abbrev S32x2432 : Shape := ⟨2, ![32, 2432]⟩
abbrev S74x2432 : Shape := ⟨2, ![74, 2432]⟩
abbrev S74x32x1 : Shape := ⟨3, ![74, 32, 1]⟩
abbrev S1x32x2432 : Shape := ⟨3, ![1, 32, 2432]⟩
abbrev S74x32x2432 : Shape := ⟨3, ![74, 32, 2432]⟩
abbrev S148x2432 : Shape := ⟨2, ![148, 2432]⟩
abbrev S1x32x1 : Shape := ⟨3, ![1, 32, 1]⟩
abbrev S16384x3200 : Shape := ⟨2, ![16384, 3200]⟩
abbrev S512x100 : Shape := ⟨2, ![512, 100]⟩
abbrev S512x3200 : Shape := ⟨2, ![512, 3200]⟩
abbrev S512x28 : Shape := ⟨2, ![512, 28]⟩
abbrev S512x74 : Shape := ⟨2, ![512, 74]⟩
abbrev S512x3584 : Shape := ⟨2, ![512, 3584]⟩
abbrev S512x512 : Shape := ⟨2, ![512, 512]⟩
abbrev S1x512x128 : Shape := ⟨3, ![1, 512, 128]⟩
abbrev S512x128 : Shape := ⟨2, ![512, 128]⟩
abbrev S512x896 : Shape := ⟨2, ![512, 896]⟩
abbrev S512x148 : Shape := ⟨2, ![512, 148]⟩
abbrev S512x2432 : Shape := ⟨2, ![512, 2432]⟩
abbrev S512x768 : Shape := ⟨2, ![512, 768]⟩
abbrev S512x2304 : Shape := ⟨2, ![512, 2304]⟩
abbrev S16384x100x32 : Shape := ⟨3, ![16384, 100, 32]⟩

abbrev nBuf : Space → Nat
  | .hbm => 174
  | .vmem => 12
  | .smem => 0
  | _ => 0

abbrev hbmTy0_0 (i : Nat) : BufTy := match i % 128 with
  | 0 => ⟨S16384x100, .f32⟩
  | 1 => ⟨S26x100000x32, .f32⟩
  | 2 => ⟨S74x32, .f32⟩
  | 3 => ⟨S74x32, .f32⟩
  | 4 => ⟨S32, .f32⟩
  | 5 => ⟨S32, .f32⟩
  | 6 => ⟨S26x128x32, .f32⟩
  | 7 => ⟨S_, .f32⟩
  | 8 => ⟨S26x128, .f32⟩
  | 9 => ⟨S26x128x1, .f32⟩
  | 10 => ⟨S_, .f32⟩
  | 11 => ⟨S26x128x1, .f32⟩
  | 12 => ⟨S26x128x1, .f32⟩
  | 13 => ⟨S26x128x32, .f32⟩
  | 14 => ⟨S26x128x32, .f32⟩
  | 15 => ⟨S26x128x32, .f32⟩
  | 16 => ⟨S_, .f32⟩
  | 17 => ⟨S26x128, .f32⟩
  | 18 => ⟨S26x128x1, .f32⟩
  | 19 => ⟨S_, .f32⟩
  | 20 => ⟨S26x128x1, .f32⟩
  | 21 => ⟨S26x128x1, .f32⟩
  | 22 => ⟨S26x128x32, .f32⟩
  | 23 => ⟨S26x128x32, .f32⟩
  | 24 => ⟨S_, .f32⟩
  | 25 => ⟨S26x128x1, .f32⟩
  | 26 => ⟨S26x128x1, .f32⟩
  | 27 => ⟨S26x128x1, .f32⟩
  | 28 => ⟨S26x128x32, .f32⟩
  | 29 => ⟨S26x128x32, .f32⟩
  | 30 => ⟨S1x1x32, .f32⟩
  | 31 => ⟨S26x128x32, .f32⟩
  | 32 => ⟨S26x128x32, .f32⟩
  | 33 => ⟨S1x1x32, .f32⟩
  | 34 => ⟨S26x128x32, .f32⟩
  | 35 => ⟨S26x128x32, .f32⟩
  | 36 => ⟨S4x4, .i32⟩
  | 37 => ⟨S4x4, .i32⟩
  | 38 => ⟨S_, .i32⟩
  | 39 => ⟨S4x4, .i32⟩
  | 40 => ⟨S4x4, .i32⟩
  | 41 => ⟨S4x4, .i1⟩
  | 42 => ⟨S4x4, .f32⟩
  | 43 => ⟨S_, .f32⟩
  | 44 => ⟨S2x128x32, .f32⟩
  | 45 => ⟨S28x128x32, .f32⟩
  | 46 => ⟨S7x4x128x32, .f32⟩
  | 47 => ⟨S7x4x128x1x32, .f32⟩
  | 48 => ⟨S1x4x1x4x1, .f32⟩
  | 49 => ⟨S7x4x128x4x32, .f32⟩
  | 50 => ⟨S7x4x128x4x32, .f32⟩
  | 51 => ⟨S7x4x128x4x32, .f32⟩
  | 52 => ⟨S7x512x128, .f32⟩
  | 53 => ⟨S28x28, .i32⟩
  | 54 => ⟨S28x28, .i32⟩
  | 55 => ⟨S_, .i32⟩
  | 56 => ⟨S28x28, .i32⟩
  | 57 => ⟨S28x28, .i32⟩
  | 58 => ⟨S28x28, .i1⟩
  | 59 => ⟨S28x28, .f32⟩
  | 60 => ⟨S28x28x128, .f32⟩
  | 61 => ⟨S28x3584, .f32⟩
  | 62 => ⟨S128, .f32⟩
  | 63 => ⟨S1x128, .f32⟩
  | 64 => ⟨S28x128, .f32⟩
  | 65 => ⟨S3584, .f32⟩
  | 66 => ⟨S1x3584, .f32⟩
  | 67 => ⟨S_, .f32⟩
  | 68 => ⟨S74, .f32⟩
  | 69 => ⟨S74x1, .f32⟩
  | 70 => ⟨S_, .f32⟩
  | 71 => ⟨S74x1, .f32⟩
  | 72 => ⟨S74x1, .f32⟩
  | 73 => ⟨S74x32, .f32⟩
  | 74 => ⟨S74x32, .f32⟩
  | 75 => ⟨S_, .f32⟩
  | 76 => ⟨S74, .f32⟩
  | 77 => ⟨S74x1, .f32⟩
  | 78 => ⟨S_, .f32⟩
  | 79 => ⟨S74x1, .f32⟩
  | 80 => ⟨S74x1, .f32⟩
  | 81 => ⟨S74x32, .f32⟩
  | 82 => ⟨S74x32, .f32⟩
  | 83 => ⟨S74x32, .f32⟩
  | 84 => ⟨S_, .f32⟩
  | 85 => ⟨S74, .f32⟩
  | 86 => ⟨S_, .f32⟩
  | 87 => ⟨S74, .f32⟩
  | 88 => ⟨S74, .f32⟩
  | 89 => ⟨S1x74, .f32⟩
  | 90 => ⟨S74x32, .f32⟩
  | 91 => ⟨S_, .f32⟩
  | 92 => ⟨S74, .f32⟩
  | 93 => ⟨S_, .f32⟩
  | 94 => ⟨S74, .f32⟩
  | 95 => ⟨S74, .f32⟩
  | 96 => ⟨S_, .f32⟩
  | 97 => ⟨S74, .f32⟩
  | 98 => ⟨S74, .f32⟩
  | 99 => ⟨S1x74, .f32⟩
  | 100 => ⟨S74x32, .f32⟩
  | 101 => ⟨S_, .f32⟩
  | 102 => ⟨S74, .f32⟩
  | 103 => ⟨S_, .f32⟩
  | 104 => ⟨S74, .f32⟩
  | 105 => ⟨S74, .f32⟩
  | 106 => ⟨S1x74, .f32⟩
  | 107 => ⟨S1x32, .f32⟩
  | 108 => ⟨S74x32, .f32⟩
  | 109 => ⟨S74x32, .f32⟩
  | 110 => ⟨S1x32, .f32⟩
  | 111 => ⟨S74x32, .f32⟩
  | 112 => ⟨S74x32, .f32⟩
  | 113 => ⟨S2432, .i32⟩
  | 114 => ⟨S_, .i32⟩
  | 115 => ⟨S2432, .i32⟩
  | 116 => ⟨S2432, .i32⟩
  | 117 => ⟨S_, .i32⟩
  | 118 => ⟨S2432, .i32⟩
  | 119 => ⟨S2432, .i32⟩
  | 120 => ⟨S_, .i32⟩
  | 121 => ⟨S2432, .i32⟩
  | 122 => ⟨S2432, .i32⟩
  | 123 => ⟨S_, .i32⟩
  | 124 => ⟨S2432, .i32⟩
  | 125 => ⟨S2432, .i32⟩
  | 126 => ⟨S_, .i32⟩
  | 127 => ⟨S2432, .i32⟩
  | _ => ⟨S16384x100, .f32⟩

abbrev hbmTy0_1 (i : Nat) : BufTy := match i % 128 with
  | 0 => ⟨S2432, .i1⟩
  | 1 => ⟨S2432, .f32⟩
  | 2 => ⟨S1x2432, .f32⟩
  | 3 => ⟨S1x2432, .i32⟩
  | 4 => ⟨S32, .i32⟩
  | 5 => ⟨S32x1, .i32⟩
  | 6 => ⟨S32x2432, .i32⟩
  | 7 => ⟨S32x2432, .i32⟩
  | 8 => ⟨S32x2432, .i1⟩
  | 9 => ⟨S32x2432, .f32⟩
  | 10 => ⟨S1x2432, .i32⟩
  | 11 => ⟨S74, .i32⟩
  | 12 => ⟨S74x1, .i32⟩
  | 13 => ⟨S74x2432, .i32⟩
  | 14 => ⟨S74x2432, .i32⟩
  | 15 => ⟨S74x2432, .i1⟩
  | 16 => ⟨S74x2432, .f32⟩
  | 17 => ⟨S74x32x1, .f32⟩
  | 18 => ⟨S1x32x2432, .f32⟩
  | 19 => ⟨S74x32x2432, .f32⟩
  | 20 => ⟨S74x32x2432, .f32⟩
  | 21 => ⟨S74x32x2432, .f32⟩
  | 22 => ⟨S_, .f32⟩
  | 23 => ⟨S74x2432, .f32⟩
  | 24 => ⟨S74x2432, .f32⟩
  | 25 => ⟨S74x32x1, .f32⟩
  | 26 => ⟨S1x32x2432, .f32⟩
  | 27 => ⟨S74x32x2432, .f32⟩
  | 28 => ⟨S74x32x2432, .f32⟩
  | 29 => ⟨S74x32x2432, .f32⟩
  | 30 => ⟨S_, .f32⟩
  | 31 => ⟨S74x2432, .f32⟩
  | 32 => ⟨S74x2432, .f32⟩
  | 33 => ⟨S148x2432, .f32⟩
  | 34 => ⟨S1x32x1, .f32⟩
  | 35 => ⟨S1x32x2432, .f32⟩
  | 36 => ⟨S1x32x2432, .f32⟩
  | 37 => ⟨S1x32x2432, .f32⟩
  | 38 => ⟨S_, .f32⟩
  | 39 => ⟨S1x2432, .f32⟩
  | 40 => ⟨S1x2432, .f32⟩
  | 41 => ⟨S7x512x128, .bf16⟩
  | 42 => ⟨S28x3584, .bf16⟩
  | 43 => ⟨S148x2432, .bf16⟩
  | 44 => ⟨S16384x3200, .f32⟩
  | 45 => ⟨S16384x100x32, .f32⟩
  | _ => ⟨S16384x100, .f32⟩

abbrev hbmTy (i : Nat) : BufTy := match i / 128 with
  | 0 => hbmTy0_0 i
  | 1 => hbmTy0_1 i
  | _ => ⟨S16384x100, .f32⟩

abbrev bufTy : (tb : Table) → Fin (tcTables nBuf tb) → BufTy
  | .hbm, ⟨i, _⟩ => hbmTy i
  | .local _ .vmem, ⟨0, _⟩ => ⟨S512x100, .f32⟩
  | .local _ .vmem, ⟨1, _⟩ => ⟨S512x100, .f32⟩
  | .local _ .vmem, ⟨2, _⟩ => ⟨S7x512x128, .bf16⟩
  | .local _ .vmem, ⟨3, _⟩ => ⟨S28x3584, .bf16⟩
  | .local _ .vmem, ⟨4, _⟩ => ⟨S1x3584, .f32⟩
  | .local _ .vmem, ⟨5, _⟩ => ⟨S148x2432, .bf16⟩
  | .local _ .vmem, ⟨6, _⟩ => ⟨S1x74, .f32⟩
  | .local _ .vmem, ⟨7, _⟩ => ⟨S1x74, .f32⟩
  | .local _ .vmem, ⟨8, _⟩ => ⟨S1x74, .f32⟩
  | .local _ .vmem, ⟨9, _⟩ => ⟨S1x2432, .f32⟩
  | .local _ .vmem, ⟨10, _⟩ => ⟨S512x3200, .f32⟩
  | .local _ .vmem, ⟨11, _⟩ => ⟨S512x3200, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_cst_11 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_12 : Ref sig .tc := ⟨.hbm, 91, rfl⟩
abbrev main_v71 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_15 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_17 : Ref sig .tc := ⟨.hbm, 114, rfl⟩
abbrev main_v89 : Ref sig .tc := ⟨.hbm, 115, rfl⟩
abbrev main_v90 : Ref sig .tc := ⟨.hbm, 116, rfl⟩
abbrev main_c_18 : Ref sig .tc := ⟨.hbm, 117, rfl⟩
abbrev main_v91 : Ref sig .tc := ⟨.hbm, 118, rfl⟩
abbrev main_v92 : Ref sig .tc := ⟨.hbm, 119, rfl⟩
abbrev main_c_19 : Ref sig .tc := ⟨.hbm, 120, rfl⟩
abbrev main_v93 : Ref sig .tc := ⟨.hbm, 121, rfl⟩
abbrev main_v94 : Ref sig .tc := ⟨.hbm, 122, rfl⟩
abbrev main_c_20 : Ref sig .tc := ⟨.hbm, 123, rfl⟩
abbrev main_v95 : Ref sig .tc := ⟨.hbm, 124, rfl⟩
abbrev main_v96 : Ref sig .tc := ⟨.hbm, 125, rfl⟩
abbrev main_c_21 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_22 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_23 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_24 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S28x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S148x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x74 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x74 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x74 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2432 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3200 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x100 : Shape := ⟨2, ![16384, 100]⟩
abbrev S26x100000x32 : Shape := ⟨3, ![26, 100000, 32]⟩
abbrev S74x32 : Shape := ⟨2, ![74, 32]⟩
abbrev S32 : Shape := ⟨1, ![32]⟩
abbrev S16384x26 : Shape := ⟨2, ![16384, 26]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x32 : Shape := ⟨3, ![16384, 26, 32]⟩
abbrev S16384x74 : Shape := ⟨2, ![16384, 74]⟩
abbrev S16384x74x1 : Shape := ⟨3, ![16384, 74, 1]⟩
abbrev S1x74x32 : Shape := ⟨3, ![1, 74, 32]⟩
abbrev S16384x74x32 : Shape := ⟨3, ![16384, 74, 32]⟩
abbrev S16384x100x32 : Shape := ⟨3, ![16384, 100, 32]⟩
abbrev S16384x100x1 : Shape := ⟨3, ![16384, 100, 1]⟩
abbrev S1x1x32 : Shape := ⟨3, ![1, 1, 32]⟩

abbrev nBuf : Space → Nat
  | .hbm => 68
  | .vmem => 0
  | .smem => 0
  | _ => 0

abbrev bufTy : (tb : Table) → Fin (tcTables nBuf tb) → BufTy
  | .hbm, ⟨0, _⟩ => ⟨S16384x100, .f32⟩
  | .hbm, ⟨1, _⟩ => ⟨S26x100000x32, .f32⟩
  | .hbm, ⟨2, _⟩ => ⟨S74x32, .f32⟩
  | .hbm, ⟨3, _⟩ => ⟨S74x32, .f32⟩
  | .hbm, ⟨4, _⟩ => ⟨S32, .f32⟩
  | .hbm, ⟨5, _⟩ => ⟨S32, .f32⟩
  | .hbm, ⟨6, _⟩ => ⟨S16384x26, .f32⟩
  | .hbm, ⟨7, _⟩ => ⟨S16384x26, .i32⟩
  | .hbm, ⟨8, _⟩ => ⟨S26, .i32⟩
  | .hbm, ⟨9, _⟩ => ⟨S1x26, .i32⟩
  | .hbm, ⟨10, _⟩ => ⟨S_, .i32⟩
  | .hbm, ⟨11, _⟩ => ⟨S1x26, .i32⟩
  | .hbm, ⟨12, _⟩ => ⟨S1x26, .i1⟩
  | .hbm, ⟨13, _⟩ => ⟨S_, .i32⟩
  | .hbm, ⟨14, _⟩ => ⟨S1x26, .i32⟩
  | .hbm, ⟨15, _⟩ => ⟨S1x26, .i32⟩
  | .hbm, ⟨16, _⟩ => ⟨S1x26, .i32⟩
  | .hbm, ⟨17, _⟩ => ⟨S_, .i32⟩
  | .hbm, ⟨18, _⟩ => ⟨S16384x26, .i32⟩
  | .hbm, ⟨19, _⟩ => ⟨S16384x26, .i1⟩
  | .hbm, ⟨20, _⟩ => ⟨S_, .i32⟩
  | .hbm, ⟨21, _⟩ => ⟨S16384x26, .i32⟩
  | .hbm, ⟨22, _⟩ => ⟨S16384x26, .i32⟩
  | .hbm, ⟨23, _⟩ => ⟨S16384x26, .i32⟩
  | .hbm, ⟨24, _⟩ => ⟨S16384x26, .i32⟩
  | .hbm, ⟨25, _⟩ => ⟨S16384x26x1, .i32⟩
  | .hbm, ⟨26, _⟩ => ⟨S16384x26x1, .i32⟩
  | .hbm, ⟨27, _⟩ => ⟨S16384x26x2, .i32⟩
  | .hbm, ⟨28, _⟩ => ⟨S16384x26x32, .f32⟩
  | .hbm, ⟨29, _⟩ => ⟨S16384x74, .f32⟩
  | .hbm, ⟨30, _⟩ => ⟨S16384x74x1, .f32⟩
  | .hbm, ⟨31, _⟩ => ⟨S1x74x32, .f32⟩
  | .hbm, ⟨32, _⟩ => ⟨S16384x74x32, .f32⟩
  | .hbm, ⟨33, _⟩ => ⟨S16384x74x32, .f32⟩
  | .hbm, ⟨34, _⟩ => ⟨S16384x74x32, .f32⟩
  | .hbm, ⟨35, _⟩ => ⟨S1x74x32, .f32⟩
  | .hbm, ⟨36, _⟩ => ⟨S16384x74x32, .f32⟩
  | .hbm, ⟨37, _⟩ => ⟨S16384x74x32, .f32⟩
  | .hbm, ⟨38, _⟩ => ⟨S16384x100x32, .f32⟩
  | .hbm, ⟨39, _⟩ => ⟨S_, .f32⟩
  | .hbm, ⟨40, _⟩ => ⟨S16384x100, .f32⟩
  | .hbm, ⟨41, _⟩ => ⟨S16384x100x1, .f32⟩
  | .hbm, ⟨42, _⟩ => ⟨S_, .f32⟩
  | .hbm, ⟨43, _⟩ => ⟨S16384x100x1, .f32⟩
  | .hbm, ⟨44, _⟩ => ⟨S16384x100x1, .f32⟩
  | .hbm, ⟨45, _⟩ => ⟨S16384x100x32, .f32⟩
  | .hbm, ⟨46, _⟩ => ⟨S16384x100x32, .f32⟩
  | .hbm, ⟨47, _⟩ => ⟨S16384x100x32, .f32⟩
  | .hbm, ⟨48, _⟩ => ⟨S_, .f32⟩
  | .hbm, ⟨49, _⟩ => ⟨S16384x100, .f32⟩
  | .hbm, ⟨50, _⟩ => ⟨S16384x100x1, .f32⟩
  | .hbm, ⟨51, _⟩ => ⟨S_, .f32⟩
  | .hbm, ⟨52, _⟩ => ⟨S16384x100x1, .f32⟩
  | .hbm, ⟨53, _⟩ => ⟨S16384x100x1, .f32⟩
  | .hbm, ⟨54, _⟩ => ⟨S16384x100x32, .f32⟩
  | .hbm, ⟨55, _⟩ => ⟨S16384x100x32, .f32⟩
  | .hbm, ⟨56, _⟩ => ⟨S_, .f32⟩
  | .hbm, ⟨57, _⟩ => ⟨S16384x100x1, .f32⟩
  | .hbm, ⟨58, _⟩ => ⟨S16384x100x1, .f32⟩
  | .hbm, ⟨59, _⟩ => ⟨S16384x100x1, .f32⟩
  | .hbm, ⟨60, _⟩ => ⟨S16384x100x32, .f32⟩
  | .hbm, ⟨61, _⟩ => ⟨S16384x100x32, .f32⟩
  | .hbm, ⟨62, _⟩ => ⟨S1x1x32, .f32⟩
  | .hbm, ⟨63, _⟩ => ⟨S16384x100x32, .f32⟩
  | .hbm, ⟨64, _⟩ => ⟨S16384x100x32, .f32⟩
  | .hbm, ⟨65, _⟩ => ⟨S1x1x32, .f32⟩
  | .hbm, ⟨66, _⟩ => ⟨S16384x100x32, .f32⟩
  | .hbm, ⟨67, _⟩ => ⟨S16384x100x32, .f32⟩
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Proof.Prep.lean ====
/-
  What the kernel's host operations prepare: each array that the kernel's windows read, as a function of the arguments.
-/
module

public import proofs.«01_k».proof.Proof.Gen.KernelIdeal
public import Idealize.ShloMosaic.Lib.Pointwise
public import Idealize.ShloMosaic.PureOps.Ideal.Laws

@[expose] public section

set_option maxRecDepth 16384

noncomputable section

namespace Cert.KernelIdeal.Prep

open Cert.KernelIdeal Cert.KernelIdeal.Gen Idealize.ShloMosaic Idealize.ShloMosaic.TcCoe Idealize.SL.Sem

/-- The mean over the last axis of a table slice, kept as an axis of size one. -/
def mean3 (a : FVec Ideal S26x128x32 .f32) : FVec Ideal S26x128x1 .f32 :=
  Host.divf (broadcastInDim S26x128x1 ![0, 1] bcast_S26x128_S26x128x1_0_1
      (Host.reduceAdd a (constant S_ .f32 0x00000000#32) reducesTo_S26x128x32_S26x128_d2 h_S_))
    (broadcastInDim S26x128x1 ![] bcast_S_S26x128x1 (constant S_ .f32 0x42000000#32))

/-- A table slice less its mean over the last axis. -/
def centred3 (a : FVec Ideal S26x128x32 .f32) : FVec Ideal S26x128x32 .f32 :=
  subf a (broadcastInDim S26x128x32 ![0, 1, 2] bcast_S26x128x1_S26x128x32_0_1_2 (mean3 a))

/-- The first 128 rows of every table, each row normalized, scaled and shifted. -/
def tabn (t : FVec Ideal S26x100000x32 .f32) (g b : FVec Ideal S32 .f32) : FVec Ideal S26x128x32 .f32 :=
  have a : FVec Ideal S26x128x32 .f32 := extractStridedSlice S26x128x32 ![0, 0, 0] t slices_S26x100000x32_S26x128x32_0_0_0
  have v : FVec Ideal S26x128x1 .f32 := mean3 (mulf (centred3 a) (centred3 a))
  have r : FVec Ideal S26x128x1 .f32 :=
    Host.rsqrt (addf v (broadcastInDim S26x128x1 ![] bcast_S_S26x128x1 (constant S_ .f32 0x3727C5AC#32)))
  addf (mulf (mulf (centred3 a) (broadcastInDim S26x128x32 ![0, 1, 2] bcast_S26x128x1_S26x128x32_0_1_2 r))
      (broadcastInDim S26x128x32 ![0, 1, 2] bcast_S1x1x32_S26x128x32_0_1_2 (broadcastInDim S1x1x32 ![2] bcast_S32_S1x1x32_2 g)))
    (broadcastInDim S26x128x32 ![0, 1, 2] bcast_S1x1x32_S26x128x32_0_1_2 (broadcastInDim S1x1x32 ![2] bcast_S32_S1x1x32_2 b))

/-- The normalized tables in groups of four, each group block diagonal, two tables of zeros added. -/
def grouped (a : FVec Ideal S26x128x32 .f32) : FVec Ideal S7x512x128 .bf16 :=
  have eye : FVec Ideal S4x4 .f32 := uitofp .f32 (cmpi .eq
    (addi (iotaInDim S4x4 32 0) (broadcastInDim S4x4 ![] bcast_S_S4x4 (constantI S_ 32 0#32))) (iotaInDim S4x4 32 1))
  have z : FVec Ideal S28x128x32 .f32 := concatenate S28x128x32 0 [⟨S26x128x32, a⟩,
    ⟨S2x128x32, broadcastInDim S2x128x32 ![] bcast_S_S2x128x32 (constant (F := Ideal) S_ .f32 0x00000000#32)⟩]
    concatenates_S26x128x32_S2x128x32_S28x128x32_d0
  have q : FVec Ideal S7x4x128x32 .f32 := shapeCast S7x4x128x32 z shapeCasts_S28x128x32_S7x4x128x32
  have p : FVec Ideal S7x4x128x4x32 .f32 := mulf
    (broadcastInDim S7x4x128x4x32 ![0, 1, 2, 3, 4] bcast_S7x4x128x1x32_S7x4x128x4x32_0_1_2_3_4
      (broadcastInDim S7x4x128x1x32 ![0, 1, 2, 4] bcast_S7x4x128x32_S7x4x128x1x32_0_1_2_4 q))
    (broadcastInDim S7x4x128x4x32 ![0, 1, 2, 3, 4] bcast_S1x4x1x4x1_S7x4x128x4x32_0_1_2_3_4
      (broadcastInDim S1x4x1x4x1 ![1, 3] bcast_S4x4_S1x4x1x4x1_1_3 eye))
  truncf .bf16 (shapeCast S7x512x128 p shapeCasts_S7x4x128x4x32_S7x512x128) bitsLt_bf16_f32

/-- Row `f` of the field table is one on the 128 columns of field `f` and zero elsewhere. -/
def fields : FVec Ideal S28x3584 .bf16 :=
  have eye : FVec Ideal S28x28 .f32 := uitofp .f32 (cmpi .eq
    (addi (iotaInDim S28x28 32 0) (broadcastInDim S28x28 ![] bcast_S_S28x28 (constantI S_ 32 0#32))) (iotaInDim S28x28 32 1))
  truncf .bf16 (shapeCast S28x3584 (broadcastInDim S28x28x128 ![0, 1] bcast_S28x28_S28x28x128_0_1 eye)
    shapeCasts_S28x28x128_S28x3584) bitsLt_bf16_f32

/-- The numbers 0 to 127, repeated once per field. -/
def counter : FVec Ideal S1x3584 .f32 :=
  broadcastInDim S1x3584 ![1] bcast_S3584_S1x3584_1 (shapeCast S3584
    (broadcastInDim S28x128 ![0, 1] bcast_S1x128_S28x128_0_1
      (shapeCast S1x128 (sitofp (F := Ideal) .f32 (iotaInDim S128 32 0)) shapeCasts_S128_S1x128)) shapeCasts_S28x128_S3584)

/-- A weight array less the mean of each of its rows. -/
def centred2 (a : FVec Ideal S74x32 .f32) : FVec Ideal S74x32 .f32 :=
  subf a (broadcastInDim S74x32 ![0, 1] bcast_S74x1_S74x32_0_1 (Host.divf
    (broadcastInDim S74x1 ![0] bcast_S74_S74x1_0 (Host.reduceAdd a (constant S_ .f32 0x00000000#32) reducesTo_S74x32_S74_d1 h_S_))
    (broadcastInDim S74x1 ![] bcast_S_S74x1 (constant S_ .f32 0x42000000#32))))

/-- The mean of each row of a product of two weight arrays. -/
def rowMean (a b : FVec Ideal S74x32 .f32) : FVec Ideal S74 .f32 :=
  Host.divf (Host.reduceAdd (mulf a b) (constant S_ .f32 0x00000000#32) reducesTo_S74x32_S74_d1 h_S_)
    (broadcastInDim S74 ![] bcast_S_S74 (constant S_ .f32 0x42000000#32))

/-- A vector of 74 as a row. -/
def asRow (a : FVec Ideal S74 .f32) : FVec Ideal S1x74 .f32 := broadcastInDim S1x74 ![1] bcast_S74_S1x74_1 a

/-- Twice the row means of a product: the linear coefficient of a variance. -/
def twiceMean (a b : FVec Ideal S74x32 .f32) : FVec Ideal S74 .f32 :=
  mulf (broadcastInDim S74 ![] bcast_S_S74 (constant S_ .f32 0x40000000#32)) (rowMean a b)

/-- Each row of a weight array times the scale. -/
def scaled (a : FVec Ideal S74x32 .f32) (g : FVec Ideal S32 .f32) : FVec Ideal S74x32 .f32 :=
  mulf a (broadcastInDim S74x32 ![0, 1] bcast_S1x32_S74x32_0_1 (broadcastInDim S1x32 ![1] bcast_S32_S1x32_1 g))

/-- The position in the whole result row of each numerical column. -/
def place : IVec S2432 32 :=
  addi (iotaInDim S2432 32 0) (broadcastInDim S2432 ![] bcast_S_S2432 (constantI S_ 32 768#32))

/-- The numerical feature of each column, negative where the column is no numerical feature's. -/
def feature : IVec S2432 32 :=
  subi (Host.divsi place (broadcastInDim S2432 ![] bcast_S_S2432 (constantI S_ 32 32#32)))
    (broadcastInDim S2432 ![] bcast_S_S2432 (constantI S_ 32 26#32))

/-- One where a column belongs to lane `d`. -/
def lanes : FVec Ideal S32x2432 .f32 :=
  uitofp .f32 (cmpi .eq
    (broadcastInDim S32x2432 ![0, 1] bcast_S1x2432_S32x2432_0_1 (broadcastInDim S1x2432 ![1] bcast_S2432_S1x2432_1
      (Host.remsi place (broadcastInDim S2432 ![] bcast_S_S2432 (constantI S_ 32 32#32)))))
    (broadcastInDim S32x2432 ![0, 1] bcast_S32x1_S32x2432_0_1 (broadcastInDim S32x1 ![0] bcast_S32_S32x1_0 (iotaInDim S32 32 0))))

/-- One where a column belongs to numerical feature `j`. -/
def owners : FVec Ideal S74x2432 .f32 :=
  uitofp .f32 (cmpi .eq
    (broadcastInDim S74x2432 ![0, 1] bcast_S1x2432_S74x2432_0_1 (broadcastInDim S1x2432 ![1] bcast_S2432_S1x2432_1 feature))
    (broadcastInDim S74x2432 ![0, 1] bcast_S74x1_S74x2432_0_1 (broadcastInDim S74x1 ![0] bcast_S74_S74x1_0 (iotaInDim S74 32 0))))

/-- One where a column belongs to some numerical feature. -/
def live : FVec Ideal S1x2432 .f32 :=
  broadcastInDim S1x2432 ![1] bcast_S2432_S1x2432_1 (uitofp .f32 (cmpi .sge feature
    (broadcastInDim S2432 ![] bcast_S_S2432 (constantI S_ 32 0#32))))

/-- A weight array spread over the columns: row `j` on feature `j`'s columns, zero elsewhere. -/
def spread (a : FVec Ideal S74x32 .f32) : FVec Ideal S74x2432 .f32 :=
  mulf (Host.reduceAdd (mulf
      (broadcastInDim S74x32x2432 ![0, 1, 2] bcast_S74x32x1_S74x32x2432_0_1_2 (broadcastInDim S74x32x1 ![0, 1] bcast_S74x32_S74x32x1_0_1 a))
      (broadcastInDim S74x32x2432 ![0, 1, 2] bcast_S1x32x2432_S74x32x2432_0_1_2 (broadcastInDim S1x32x2432 ![1, 2] bcast_S32x2432_S1x32x2432_1_2 lanes)))
    (constant S_ .f32 0x00000000#32) reducesTo_S74x32x2432_S74x2432_d1 h_S_) owners

/-- Two spread arrays, one above the other. -/
def stacked (a b : FVec Ideal S74x32 .f32) : FVec Ideal S148x2432 .bf16 :=
  truncf .bf16 (concatenate S148x2432 0 [⟨S74x2432, spread a⟩, ⟨S74x2432, spread b⟩] concatenates_S74x2432_S74x2432_S148x2432_d0) bitsLt_bf16_f32

/-- The shift, repeated over the numerical features' columns, zero elsewhere. -/
def shifts (b : FVec Ideal S32 .f32) : FVec Ideal S1x2432 .f32 :=
  mulf (Host.reduceAdd (mulf
      (broadcastInDim S1x32x2432 ![0, 1, 2] bcast_S1x32x1_S1x32x2432_0_1_2 (broadcastInDim S1x32x1 ![1] bcast_S32_S1x32x1_1 b))
      (broadcastInDim S1x32x2432 ![1, 2] bcast_S32x2432_S1x32x2432_1_2 lanes))
    (constant S_ .f32 0x00000000#32) reducesTo_S1x32x2432_S1x2432_d1 h_S_) live

end Cert.KernelIdeal.Prep

end
-- ==== Proof.Math.lean ====
/-
  The arithmetic over the extended reals: a row normalized by the reciprocal of a root against a row divided by the root,
  and the numerical features' variance as a quadratic in the feature.
-/
module

public import Idealize.ShloMosaic.PureOps.Ideal.Laws
public import Idealize.ShloMosaic.Lib.IdealHost

@[expose] public section

noncomputable section

namespace Cert.Norm

open Idealize.ShloMosaic

/-- The mean of 32 values. -/
def mean (a : Fin 32 → EReal) : EReal := Ideal.div (∑ d, a d) (Ideal.ofBits .f32 0x42000000#32)

/-- A value less the mean of all. -/
def dev (a : Fin 32 → EReal) (d : Fin 32) : EReal := a d - mean a

/-- The mean squared deviation. -/
def var (a : Fin 32 → EReal) : EReal := mean fun d => dev a d * dev a d

/-- The small constant under the root. -/
def eps : EReal := Ideal.ofBits .f32 0x3727C5AC#32

/-- A row normalized, scaled and shifted, as the reference does it. -/
def norm (a : Fin 32 → EReal) (d : Fin 32) (g b : EReal) : EReal :=
  Ideal.div (dev a d) (Ideal.sqrt (var a + eps)) * g + b

/-- The literal that the means divide by is 32. -/
theorem lit32 : Ideal.ofBits .f32 0x42000000#32 = ((32 : ℝ) : EReal) := by
  simp [Ideal.ofBits, Ideal.ieee, -EReal.coe_mul]; norm_num

/-- The literal of the quadratic's middle coefficient is 2. -/
theorem lit2 : Ideal.ofBits .f32 0x40000000#32 = ((2 : ℝ) : EReal) := by
  simp [Ideal.ofBits, Ideal.ieee, -EReal.coe_mul]; norm_num

/-- The small constant is a positive real. -/
theorem eps_real : ∃ e : ℝ, 0 < e ∧ eps = (e : EReal) := by
  refine ⟨(2 ^ 23 + 2606508) * (2 : ℝ) ^ (-40 : ℤ), by positivity, ?_⟩
  simp [eps, Ideal.ofBits, Ideal.ieee, -EReal.coe_mul]; norm_num

/-- A mean is the sum times 1/32. -/
theorem mean_eq (a : Fin 32 → EReal) : mean a = (∑ d, a d) * ((1 / 32 : ℝ) : EReal) := by
  rw [mean, lit32, Ideal.div_coe (by norm_num : (32 : ℝ) ≠ 0)]

/-- A mean of values that are not negative is not negative. -/
theorem mean_nonneg (a : Fin 32 → EReal) (h : ∀ d, 0 ≤ a d) : 0 ≤ mean a := by
  rw [mean_eq]
  exact mul_nonneg (Finset.sum_nonneg fun d _ => h d) (by exact_mod_cast (by norm_num : (0 : ℝ) ≤ 1 / 32))

/-- A square is not negative, infinite values included. -/
theorem mul_self_nonneg' (x : EReal) : 0 ≤ x * x := by
  induction x using EReal.rec with
  | bot => simp
  | coe r => exact_mod_cast mul_self_nonneg r
  | top => simp

/-- Over a positive number, the reciprocal root multiplied in is the root divided by. -/
theorem mul_rsqrt (a : EReal) {y : EReal} (hy : 0 < y) : a * Ideal.rsqrt y = Ideal.div a (Ideal.sqrt y) := by
  induction y using EReal.rec with
  | bot => simp at hy
  | top => simp [Ideal.div]
  | coe r =>
    have hr : 0 < r := by exact_mod_cast hy
    have hs : 0 < Real.sqrt r := Real.sqrt_pos.2 hr
    rw [Ideal.sqrt_coe, Ideal.rsqrt_coe, if_neg hr.le.not_gt, if_neg hr.le.not_gt, if_neg hr.ne', Ideal.div,
      if_neg (by exact_mod_cast hs.ne'), EReal.coe_inv]

/-- The radicand is positive, whatever the row holds. -/
theorem radicand_pos (a : Fin 32 → EReal) : 0 < var a + eps := by
  obtain ⟨e, he, hE⟩ := eps_real
  have h : 0 ≤ var a := mean_nonneg _ fun d => mul_self_nonneg' _
  rw [hE]
  exact lt_of_lt_of_le (by exact_mod_cast he) (le_add_of_nonneg_left h)

/-- A row normalized with the reciprocal root is the row normalized with the root. -/
theorem norm_rsqrt (a : Fin 32 → EReal) (d : Fin 32) (g b : EReal) :
    dev a d * Ideal.rsqrt (var a + eps) * g + b = norm a d g b := by
  rw [norm, mul_rsqrt _ (radicand_pos a)]

/-- A sum of reals is real. -/
theorem sum_coe {n : ℕ} (a : Fin n → ℝ) : (∑ d, (a d : EReal)) = ((∑ d, a d : ℝ) : EReal) := by
  induction n with
  | zero => simp
  | succ n ih => rw [Fin.sum_univ_succ, Fin.sum_univ_succ, ih, EReal.coe_add]

/-- The mean of 32 reals. -/
def rmean (a : Fin 32 → ℝ) : ℝ := (∑ d, a d) * (1 / 32)

/-- The mean of real values is their real mean. -/
theorem mean_coe (a : Fin 32 → ℝ) : (mean fun d => (a d : EReal)) = (rmean a : EReal) := by
  rw [mean_eq, sum_coe, ← EReal.coe_mul, rmean]

/-- The deviation of real values from their mean is real. -/
theorem dev_coe (a : Fin 32 → ℝ) (d : Fin 32) : dev (fun d => (a d : EReal)) d = ((a d - rmean a : ℝ) : EReal) := by
  rw [dev, mean_coe, EReal.coe_sub]

/-- The mean of an affine image is the affine image of the means. -/
theorem rmean_lin (w b : Fin 32 → ℝ) (x : ℝ) : rmean (fun d => x * w d + b d) = x * rmean w + rmean b := by
  simp only [rmean, Finset.sum_add_distrib, ← Finset.mul_sum]; ring

/-- The variance of `x w + b` is a quadratic in `x`, its coefficients the mean products of the deviations. -/
theorem var_quadratic (w b : Fin 32 → ℝ) (x : ℝ) :
    rmean (fun d => ((x * w d + b d) - rmean fun d => x * w d + b d) * ((x * w d + b d) - rmean fun d => x * w d + b d))
      = x * x * rmean (fun d => (w d - rmean w) * (w d - rmean w))
        + x * (2 * rmean fun d => (w d - rmean w) * (b d - rmean b))
        + rmean (fun d => (b d - rmean b) * (b d - rmean b)) := by
  rw [rmean_lin w b x]
  generalize rmean w = p, rmean b = q
  simp only [rmean]
  simp only [Finset.sum_mul, Finset.mul_sum, ← Finset.sum_add_distrib]
  refine Finset.sum_congr rfl fun d _ => ?_
  ring

/-- A numerical feature normalized through the quadratic variance is the affine row normalized. -/
theorem norm_affine (x : EReal) (w b : Fin 32 → EReal) (g s : EReal) (d : Fin 32)
    (hx : ∃ r : ℝ, x = r) (hw : ∃ r : Fin 32 → ℝ, w = fun d => (r d : EReal)) (hb : ∃ r : Fin 32 → ℝ, b = fun d => (r d : EReal))
    (hg : ∃ r : ℝ, g = r) :
    let rstd := Ideal.rsqrt (x * x * (mean fun d => dev w d * dev w d)
      + x * (Ideal.ofBits .f32 0x40000000#32 * mean fun d => dev w d * dev b d)
      + (mean fun d => dev b d * dev b d) + eps)
    x * rstd * (dev w d * g) + rstd * (dev b d * g) + s = norm (fun d => x * w d + b d) d g s := by
  obtain ⟨x, rfl⟩ := hx
  obtain ⟨w, rfl⟩ := hw
  obtain ⟨b, rfl⟩ := hb
  obtain ⟨g, rfl⟩ := hg
  obtain ⟨e, he, hE⟩ := eps_real
  intro rstd
  rw [← norm_rsqrt, var, hE]
  simp only [← EReal.coe_mul, ← EReal.coe_add, dev_coe, mean_coe]
  rw [var_quadratic, rmean_lin]
  subst rstd
  rw [lit2, hE]
  simp only [dev_coe, mean_coe, ← EReal.coe_mul, ← EReal.coe_add]
  have hp : 0 ≤ x * x * rmean (fun d => (w d - rmean w) * (w d - rmean w))
        + x * (2 * rmean fun d => (w d - rmean w) * (b d - rmean b))
        + rmean (fun d => (b d - rmean b) * (b d - rmean b)) := by
    rw [← var_quadratic]
    exact mul_nonneg (Finset.sum_nonneg fun d _ => mul_self_nonneg _) (by norm_num)
  generalize x * x * rmean (fun d => (w d - rmean w) * (w d - rmean w))
        + x * (2 * rmean fun d => (w d - rmean w) * (b d - rmean b))
        + rmean (fun d => (b d - rmean b) * (b d - rmean b)) = q at hp ⊢
  have hq : 0 < q + e := add_pos_of_nonneg_of_pos hp he
  rw [Ideal.rsqrt_coe, if_neg hq.le.not_gt, if_neg hq.ne']
  simp only [← EReal.coe_mul, ← EReal.coe_add]
  congr 2
  ring

end Cert.Norm

end
-- ==== Proof.PrepAt.lean ====
/-
  The prepared arrays read at an index.
-/
module

public import proofs.«01_k».proof.Proof.Prep
public import proofs.«01_k».proof.Proof.Math

@[expose] public section

set_option maxRecDepth 16384

noncomputable section

namespace Cert.KernelIdeal.Prep

open Cert.KernelIdeal Cert.KernelIdeal.Gen Idealize.ShloMosaic Idealize.ShloMosaic.TcCoe Cert.Norm

/-- A comparison's bit as a number is one or zero. -/
theorem bit_number {w : ℕ} (x y : BitVec w) :
    (FloatOps.uitofp .f32 (IntOp.cmpi .eq x y) : Ideal .f32) = if x = y then (1 : EReal) else 0 := by
  show (((BitVec.ofBool (x == y)).toNat : ℝ) : EReal) = _
  by_cases h : x = y <;> simp [h]

/-- Two small numbers have the same word exactly when they are equal. -/
theorem word_eq {a b : ℕ} (ha : a < 2 ^ 32) (hb : b < 2 ^ 32) : BitVec.ofNat 32 a = BitVec.ofNat 32 b ↔ a = b := by
  constructor
  · intro h
    have h' := congrArg BitVec.toNat h
    rwa [BitVec.toNat_ofNat, BitVec.toNat_ofNat, Nat.mod_eq_of_lt ha, Nat.mod_eq_of_lt hb] at h'
  · rintro rfl; rfl

/-- The comparison of two small numbers' words as a number. -/
theorem bit_word {a b : ℕ} (ha : a < 2 ^ 32) (hb : b < 2 ^ 32) :
    (FloatOps.uitofp .f32 (IntOp.cmpi .eq (BitVec.ofNat 32 a) (BitVec.ofNat 32 b)) : Ideal .f32) = if a = b then (1 : EReal) else 0 := by
  rw [bit_number]
  exact if_congr (word_eq ha hb) rfl rfl

/-- A normalized table row. -/
theorem tabn_apply (t : FVec Ideal S26x100000x32 .f32) (g b : FVec Ideal S32 .f32) (f : Fin 26) (v : Fin 128) (d : Fin 32) :
    tabn t g b (ix3 f v d)
      = norm (fun d => t (ix3 f ⟨v.val, by omega⟩ d)) d (g (ix1 d)) (b (ix1 d)) := by
  rw [← norm_rsqrt]
  pointwise [tabn, centred3, mean3, dev, mean, var, eps]

/-- A group's block holds a table's rows on the diagonal and zero off it. -/
theorem grouped_apply (a : FVec Ideal S26x128x32 .f32) (g : Fin 7) (k : Fin 512) (l : Fin 128) :
    grouped a (ix3 g k l) = if k.val / 128 = l.val / 32 then
      (if h : g.val * 4 + k.val / 128 < 26 then
        a (ix3 ⟨g.val * 4 + k.val / 128, h⟩ ⟨k.val % 128, Nat.mod_lt _ (by norm_num)⟩ ⟨l.val % 32, Nat.mod_lt _ (by norm_num)⟩) else 0) else 0 := by
  pointwise [grouped]
  refine (congrArg (_ * ·) ((congrArg (fun w => (FloatOps.uitofp .f32 (IntOp.cmpi .eq w (BitVec.ofNat 32 (l.val / 32))) : Ideal .f32))
    (BitVec.add_zero _)).trans (bit_word (by omega) (by omega)))).trans ?_
  by_cases h : k.val / 128 = l.val / 32 <;> simp [h]

/-- The field table. -/
theorem fields_apply (f : Fin 28) (k : Fin 3584) : fields (ix2 f k) = if f.val = k.val / 128 then (1 : EReal) else 0 := by
  pointwise [fields]
  rw [IntOp.addi, BitVec.add_zero, bit_word (by omega) (by omega)]

/-- The counter. -/
theorem counter_apply (k : Fin 3584) : counter (ix2 0 k) = (((k.val % 128 : ℕ) : ℝ) : EReal) := by
  pointwise [counter]
  show (((BitVec.ofNat 32 (k.val % 128)).toInt : ℝ) : EReal) = _
  rw [BitVec.toInt_eq_toNat_of_lt (by rw [BitVec.toNat_ofNat, Nat.mod_eq_of_lt (by omega)]; omega), BitVec.toNat_ofNat,
    Nat.mod_eq_of_lt (by omega)]
  norm_cast

/-- A centred weight is a weight's deviation in its row. -/
theorem centred2_apply (a : FVec Ideal S74x32 .f32) (j : Fin 74) (d : Fin 32) :
    centred2 a (ix2 j d) = dev (fun d => a (ix2 j d)) d := by
  pointwise [centred2, dev, mean]

/-- A row mean. -/
theorem rowMean_apply (a b : FVec Ideal S74x32 .f32) (j : Fin 74) :
    asRow (rowMean a b) (ix2 0 j) = mean fun d => a (ix2 j d) * b (ix2 j d) := by
  pointwise [asRow, rowMean, mean]

/-- Twice a row mean. -/
theorem twiceMean_apply (a b : FVec Ideal S74x32 .f32) (j : Fin 74) :
    asRow (twiceMean a b) (ix2 0 j) = Ideal.ofBits .f32 0x40000000#32 * mean fun d => a (ix2 j d) * b (ix2 j d) := by
  pointwise [asRow, twiceMean, rowMean, mean]

/-- A scaled weight. -/
theorem scaled_apply (a : FVec Ideal S74x32 .f32) (g : FVec Ideal S32 .f32) (j : Fin 74) (d : Fin 32) :
    scaled a g (ix2 j d) = a (ix2 j d) * g (ix1 d) := by
  pointwise [scaled]

/-- A column's lane is its remainder by 32. -/
theorem lane_word (k : Fin 2432) :
    IntOp.remsi ArithUnit.host (IntOp.addi (BitVec.ofNat 32 k.val) 768#32) 32#32 = BitVec.ofNat 32 (k.val % 32) := by
  revert k; decide +kernel

/-- A column's feature is its quotient by 32 less 2, as a word. -/
theorem feature_word (k : Fin 2432) :
    IntOp.subi (IntOp.divsi ArithUnit.host (IntOp.addi (BitVec.ofNat 32 k.val) 768#32) 32#32) 26#32
      = BitVec.ofNat 32 (if 64 ≤ k.val then k.val / 32 - 2 else k.val / 32 + 4294967294) := by
  revert k; decide +kernel

/-- The mask of a feature's columns. -/
theorem owner_word (k : Fin 2432) (j : ℕ) (hj : j < 74) :
    (FloatOps.uitofp .f32 (IntOp.cmpi .eq
      (IntOp.subi (IntOp.divsi ArithUnit.host (IntOp.addi (BitVec.ofNat 32 k.val) 768#32) 32#32) 26#32) (BitVec.ofNat 32 j)) : Ideal .f32)
      = if k.val / 32 = j + 2 then (1 : EReal) else 0 := by
  rw [feature_word, bit_word (by split_ifs <;> omega) (by omega)]
  refine if_congr ?_ rfl rfl
  split_ifs <;> omega

/-- The mask of all features' columns. -/
theorem live_word (k : Fin 2432) :
    (FloatOps.uitofp .f32 (IntOp.cmpi .sge
      (IntOp.subi (IntOp.divsi ArithUnit.host (IntOp.addi (BitVec.ofNat 32 k.val) 768#32) 32#32) 26#32) 0#32) : Ideal .f32)
      = if 64 ≤ k.val then (1 : EReal) else 0 := by
  have h : ∀ k : Fin 2432, (IntOp.cmpi .sge
      (IntOp.subi (IntOp.divsi ArithUnit.host (IntOp.addi (BitVec.ofNat 32 k.val) 768#32) 32#32) 26#32) 0#32)
      = if 64 ≤ k.val then 1#1 else 0#1 := by decide +kernel
  rw [h]
  show (((if 64 ≤ k.val then 1#1 else 0#1 : BitVec 1).toNat : ℝ) : EReal) = _
  split_ifs <;> simp

/-- The lane masks pick one lane out of a sum. -/
theorem sum_lane (a : Fin 32 → EReal) (k : Fin 2432) :
    (∑ x : Fin 32, a x * (FloatOps.uitofp .f32 (IntOp.cmpi .eq
      (IntOp.remsi ArithUnit.host (IntOp.addi (BitVec.ofNat 32 k.val) 768#32) 32#32) (BitVec.ofNat 32 x.val)) : Ideal .f32))
      = a ⟨k.val % 32, Nat.mod_lt _ (by norm_num)⟩ := by
  rw [Finset.sum_eq_single ⟨k.val % 32, Nat.mod_lt _ (by norm_num)⟩]
  · rw [lane_word, bit_number, if_pos rfl, mul_one]
  · intro x _ hx
    rw [lane_word, bit_word (by omega) (by omega), if_neg, mul_zero]
    intro h; exact hx (Fin.ext h.symm)
  · intro h; exact absurd (Finset.mem_univ _) h

/-- A spread weight array. -/
theorem spread_apply (a : FVec Ideal S74x32 .f32) (j : Fin 74) (k : Fin 2432) :
    spread a (ix2 j k) = if k.val / 32 = j.val + 2 then a (ix2 j ⟨k.val % 32, Nat.mod_lt _ (by norm_num)⟩) else 0 := by
  pointwise [spread, owners, feature, lanes, place]
  rw [sum_lane fun x => a (ix2 j x)]
  rw [owner_word k j.val j.isLt]
  split_ifs <;> simp

/-- Two spread arrays, one above the other. -/
theorem stacked_apply (a b : FVec Ideal S74x32 .f32) (j : Fin 148) (k : Fin 2432) :
    stacked a b (ix2 j k) = if h : j.val < 74 then spread a (ix2 ⟨j.val, h⟩ k) else spread b (ix2 ⟨j.val - 74, by omega⟩ k) := by
  pointwise [stacked]

/-- The spread shift. -/
theorem shifts_apply (b : FVec Ideal S32 .f32) (k : Fin 2432) :
    shifts b (ix2 0 k) = if 64 ≤ k.val then b (ix1 ⟨k.val % 32, Nat.mod_lt _ (by norm_num)⟩) else 0 := by
  pointwise [shifts, feature, live, lanes, place]
  rw [sum_lane fun x => b (ix1 x), live_word]
  split_ifs <;> simp

end Cert.KernelIdeal.Prep

end
-- ==== Proof.Block.lean ====
/-
  What the kernel's body writes at one grid point, read at an index: sums over the blocks that it reads.
-/
module

public import proofs.«01_k».proof.Proof.Gen.KernelIdeal.Frame
public import proofs.«01_k».proof.Proof.PrepAt
public import Idealize.ShloMosaic.Lib.Pointwise
public import Idealize.ShloMosaic.Lib.Pipeline.Value

@[expose] public section

set_option maxRecDepth 16384

noncomputable section

namespace Cert.KernelIdeal.Block

open Cert.KernelIdeal Cert.KernelIdeal.Gen Cert.KernelIdeal.Prep Cert.Norm Idealize.ShloMosaic Idealize.ShloMosaic.TcCoe

/-- The seven group products side by side. -/
def cat (x0 : Vec Ideal S512x100 .f32) (x1 : Vec Ideal S7x512x128 .bf16) (x2 : Vec Ideal S28x3584 .bf16) (x3 : Vec Ideal S1x3584 .f32) :
    FVec Ideal S512x896 .f32 :=
  k0_pay10 (k0_pay3 x0 x2 x3) (k0_pay4 x0 x2 x3 (View.ld x1 r0_3)) (k0_pay5 x0 x2 x3 (View.ld x1 r0_4))
    (k0_pay6 x0 x2 x3 (View.ld x1 r0_5)) (k0_pay7 x0 x2 x3 (View.ld x1 r0_6)) (k0_pay8 x0 x2 x3) (k0_pay9 (View.ld x1 r0_7))
    (View.ld x1 r0_8) (View.ld x1 r0_9)

/-- The numerical product with the shift added. -/
def num (x0 : Vec Ideal S512x100 .f32) (x4 : Vec Ideal S148x2432 .bf16) (x5 x6 x7 : Vec Ideal S1x74 .f32)
    (x8 : Vec Ideal S1x2432 .f32) : FVec Ideal S512x2432 .f32 :=
  k0_pay11 (k0_pay2 x0) x5 x6 x7 x4 x8

/-- A column of the group products is a sum over the 512 rows of its group's block. -/
theorem cat_apply (x0 : Vec Ideal S512x100 .f32) (x1 : Vec Ideal S7x512x128 .bf16) (x2 : Vec Ideal S28x3584 .bf16)
    (x3 : Vec Ideal S1x3584 .f32) (r : Fin 512) (k : Fin 896) :
    cat x0 x1 x2 x3 (ix2 r k) = ∑ x : Fin 512, k0_pay3 (F := Ideal) x0 x2 x3 (ix2 r ⟨512 * (k.val / 128) + x.val, by omega⟩)
      * x1 (ix3 ⟨k.val / 128, by omega⟩ x ⟨k.val % 128, Nat.mod_lt _ (by norm_num)⟩) := by
  have key : ∀ (g : ℕ) (hg : g < 7) (i : Fin 128) (o : Fin 512 → Fin 3584) (y : FVec Ideal S1x512x128 .bf16),
      k.val = g * 128 + i.val → (∀ x, (o x).val = 512 * g + x.val) → (∀ x, y (ix3 0 x i) = x1 (ix3 ⟨g, hg⟩ x i)) →
      (∑ x : Fin 512, k0_pay3 (F := Ideal) x0 x2 x3 (ix2 r (o x)) * y (ix3 0 x i))
      = ∑ x : Fin 512, k0_pay3 (F := Ideal) x0 x2 x3 (ix2 r ⟨512 * (k.val / 128) + x.val, by omega⟩)
        * x1 (ix3 ⟨k.val / 128, by omega⟩ x ⟨k.val % 128, Nat.mod_lt _ (by norm_num)⟩) := by
    intro g hg i o y hk ho hy
    have h1 : k.val / 128 = g := by omega
    have h2 : k.val % 128 = i.val := by omega
    refine Finset.sum_congr rfl fun x _ => ?_
    rw [hy x]
    have h3 : o x = ⟨512 * (k.val / 128) + x.val, by omega⟩ := Fin.ext (by have := ho x; dsimp only; omega)
    simp only [h3, h1, h2]
  unfold cat
  generalize e3 : View.ld x1 r0_3 = y3
  generalize e4 : View.ld x1 r0_4 = y4
  generalize e5 : View.ld x1 r0_5 = y5
  generalize e6 : View.ld x1 r0_6 = y6
  generalize e7 : View.ld x1 r0_7 = y7
  generalize e8 : View.ld x1 r0_8 = y8
  generalize e9 : View.ld x1 r0_9 = y9
  pointwise [k0_pay10, k0_pay4, k0_pay5, k0_pay6, k0_pay7, k0_pay8, k0_pay9]
  by_cases h0 : k.val < 128
  · rw [dif_pos h0]
    exact key 0 (by norm_num) ⟨k.val, h0⟩ _ y3 (by dsimp only; omega) (fun x => by dsimp only; omega)
      (fun x => by subst e3; pointwise)
  rw [dif_neg h0]
  by_cases h1 : k.val - 128 < 128
  · rw [dif_pos h1]
    exact key 1 (by norm_num) ⟨_, h1⟩ _ y4 (by dsimp only; omega) (fun x => by dsimp only) (fun x => by subst e4; pointwise)
  rw [dif_neg h1]
  by_cases h2 : k.val - 128 - 128 < 128
  · rw [dif_pos h2]
    exact key 2 (by norm_num) ⟨_, h2⟩ _ y5 (by dsimp only; omega) (fun x => by dsimp only) (fun x => by subst e5; pointwise)
  rw [dif_neg h2]
  by_cases h3 : k.val - 128 - 128 - 128 < 128
  · rw [dif_pos h3]
    exact key 3 (by norm_num) ⟨_, h3⟩ _ y6 (by dsimp only; omega) (fun x => by dsimp only) (fun x => by subst e6; pointwise)
  rw [dif_neg h3]
  by_cases h4 : k.val - 128 - 128 - 128 - 128 < 128
  · rw [dif_pos h4]
    exact key 4 (by norm_num) ⟨_, h4⟩ _ y7 (by dsimp only; omega) (fun x => by dsimp only) (fun x => by subst e7; pointwise)
  rw [dif_neg h4]
  by_cases h5 : k.val - 128 - 128 - 128 - 128 - 128 < 128
  · rw [dif_pos h5]
    exact key 5 (by norm_num) ⟨_, h5⟩ _ y8 (by dsimp only; omega) (fun x => by dsimp only) (fun x => by subst e8; pointwise)
  rw [dif_neg h5]
  exact key 6 (by norm_num) ⟨k.val - 128 - 128 - 128 - 128 - 128 - 128, by omega⟩ _ y9 (by dsimp only; omega)
    (fun x => by dsimp only) (fun x => by subst e9; pointwise)

/-- The reciprocal root of a numerical feature's variance. -/
def rstd (x a b c : EReal) : EReal := Ideal.rsqrt (x * x * a + x * b + c + eps)

/-- A column of the numerical product. -/
theorem num_apply (x0 : Vec Ideal S512x100 .f32) (x4 : Vec Ideal S148x2432 .bf16) (x5 x6 x7 : Vec Ideal S1x74 .f32)
    (x8 : Vec Ideal S1x2432 .f32) (r : Fin 512) (k : Fin 2432) :
    num x0 x4 x5 x6 x7 x8 (ix2 r k)
      = (∑ j : Fin 74, x0 (ix2 r ⟨26 + j.val, by omega⟩)
            * rstd (x0 (ix2 r ⟨26 + j.val, by omega⟩)) (x5 (ix2 0 j)) (x6 (ix2 0 j)) (x7 (ix2 0 j)) * x4 (ix2 ⟨j.val, by omega⟩ k))
        + (∑ j : Fin 74, rstd (x0 (ix2 r ⟨26 + j.val, by omega⟩)) (x5 (ix2 0 j)) (x6 (ix2 0 j)) (x7 (ix2 0 j))
            * x4 (ix2 ⟨74 + j.val, by omega⟩ k))
        + x8 (ix2 0 k) := by
  pointwise [num, k0_pay11, k0_pay2, rstd, eps]

/-- The offset of a load of a whole block. -/
theorem zero2 : (fun a : Fin 2 => (![0, 0] : Fin 2 → ℕ) a) = fun _ => 0 := by
  funext a; fin_cases a <;> rfl

/-- The block written: the group products, then their last 128 columns with the first numerical columns added, then the others. -/
theorem out_apply (x0 : Vec Ideal S512x100 .f32) (x1 : Vec Ideal S7x512x128 .bf16) (x2 : Vec Ideal S28x3584 .bf16)
    (x3 : Vec Ideal S1x3584 .f32) (x4 : Vec Ideal S148x2432 .bf16) (x5 x6 x7 : Vec Ideal S1x74 .f32)
    (x8 : Vec Ideal S1x2432 .f32) (r : Fin 512) (k : Fin 3200) :
    out0_9 x0 x1 x2 x3 x4 x5 x6 x7 x8 (ix2 r k) =
      if h : k.val < 768 then cat x0 x1 x2 x3 (ix2 r ⟨k.val, by omega⟩)
      else if h' : k.val < 896 then cat x0 x1 x2 x3 (ix2 r ⟨k.val, by omega⟩) + num x0 x4 x5 x6 x7 x8 (ix2 r ⟨k.val - 768, by omega⟩)
      else num x0 x4 x5 x6 x7 x8 (ix2 r ⟨k.val - 768, by omega⟩) := by
  unfold_out out0_9
  rw [View.canon_unit_zero zero2]
  have l0 : View.ld x0 r0_0 = x0 := View.ld_unit_zero zero2 _ _
  have l1 : View.ld x2 r0_1 = x2 := View.ld_unit_zero zero2 _ _
  have l2 : View.ld x3 r0_2 = x3 := View.ld_unit_zero zero2 _ _
  have l3 : View.ld x5 r0_10 = x5 := View.ld_unit_zero zero2 _ _
  have l4 : View.ld x6 r0_10 = x6 := View.ld_unit_zero zero2 _ _
  have l5 : View.ld x7 r0_10 = x7 := View.ld_unit_zero zero2 _ _
  have l6 : View.ld x4 r0_11 = x4 := View.ld_unit_zero zero2 _ _
  have l7 : View.ld x8 r0_12 = x8 := View.ld_unit_zero zero2 _ _
  simp only [l0, l1, l2, l3, l4, l5, l6, l7]
  pointwise [k0_pay1, k0_pay12, k0_pay13]
  by_cases h0 : k.val < 768
  · rw [dif_pos h0, dif_pos h0]; rfl
  · rw [dif_neg h0, dif_neg h0]
    by_cases h1 : k.val < 896
    · have h2 : k.val - 768 < 128 := by omega
      have e : (⟨768 + (k.val - 768), by omega⟩ : Fin 896) = ⟨k.val, h1⟩ := Fin.ext (by dsimp only; omega)
      rw [dif_pos h1, dif_pos h2, e]; rfl
    · have h2 : ¬ k.val - 768 < 128 := by omega
      have e : (⟨128 + (k.val - 768 - 128), by omega⟩ : Fin 2432) = ⟨k.val - 768, by omega⟩ := Fin.ext (by dsimp only; omega)
      rw [dif_neg h1, dif_neg h2, e]; rfl

end Cert.KernelIdeal.Block

end
-- ==== Proof.Column.lean ====
/-
  The columns that the body writes, when its blocks hold what the host computed: a normalized table row, or a normalized affine
  image of a numerical feature.
-/
module

public import proofs.«01_k».proof.Proof.Block

@[expose] public section

set_option maxRecDepth 16384

noncomputable section

namespace Cert.KernelIdeal.Block

open Cert.KernelIdeal Cert.KernelIdeal.Gen Cert.KernelIdeal.Prep Cert.Norm Idealize.ShloMosaic Idealize.ShloMosaic.TcCoe

/-- A truth value, widened and made a float, is one or zero. -/
theorem bit_float (P : Prop) [Decidable P] :
    (FloatOps.sitofp .f32 (BitVec.setWidth 32 (BitVec.ofBool (decide P))) : Ideal .f32) = if P then (1 : EReal) else 0 := by
  show (((BitVec.setWidth 32 (BitVec.ofBool (decide P))).toInt : ℝ) : EReal) = _
  by_cases h : P <;> simp [h]

/-- The comparison with the counter: one where the field's number is the position in the field, else zero. -/
theorem onehot_apply (x0 : Vec Ideal S512x100 .f32) (r : Fin 512) (k : Fin 3584) :
    k0_pay3 (F := Ideal) x0 fields counter (ix2 r k)
      = if x0 (ix2 r ⟨k.val / 128, by omega⟩) = (((k.val % 128 : ℕ) : ℝ) : EReal) then (1 : EReal) else 0 := by
  pointwise [k0_pay3]
  rw [bit_float, counter_apply]
  have h : (∑ x : Fin 28, x0 (ix2 r ⟨x.val, by omega⟩) * fields (ix2 x k)) = x0 (ix2 r ⟨k.val / 128, by omega⟩) := by
    rw [Finset.sum_eq_single ⟨k.val / 128, by omega⟩]
    · rw [fields_apply, if_pos rfl, mul_one]
    · intro x _ hx
      rw [fields_apply, if_neg fun e => hx (Fin.ext e), mul_zero]
    · intro h; exact absurd (Finset.mem_univ _) h
  exact if_congr (by rw [← h]) rfl rfl

/-- A categorical feature's columns hold the row of the table that the feature's number names. -/
theorem cat_feature (x0 : Vec Ideal S512x100 .f32) (a : FVec Ideal S26x128x32 .f32) (r : Fin 512) (f : Fin 26) (d : Fin 32) (n : Fin 128)
    (hx : x0 (ix2 r ⟨f.val, by omega⟩) = (((n.val : ℕ) : ℝ) : EReal)) :
    cat x0 (grouped a) fields counter (ix2 r ⟨32 * f.val + d.val, by omega⟩) = a (ix3 f n d) := by
  rw [cat_apply]
  rw [Finset.sum_eq_single ⟨128 * (f.val % 4) + n.val, by omega⟩]
  · rw [onehot_apply, grouped_apply]
    have h1 : (512 * ((32 * f.val + d.val) / 128) + (128 * (f.val % 4) + n.val)) / 128 = f.val := by omega
    have h2 : (512 * ((32 * f.val + d.val) / 128) + (128 * (f.val % 4) + n.val)) % 128 = n.val := by omega
    have h3 : (128 * (f.val % 4) + n.val) / 128 = (32 * f.val + d.val) % 128 / 32 := by omega
    have h4 : (32 * f.val + d.val) / 128 * 4 + (128 * (f.val % 4) + n.val) / 128 = f.val := by omega
    have h5 : (128 * (f.val % 4) + n.val) % 128 = n.val := by omega
    have h6 : (32 * f.val + d.val) % 128 % 32 = d.val := by omega
    simp only [h1, h2, h4, h5, h6]
    rw [if_pos hx, if_pos h3, dif_pos f.isLt, one_mul]
  · intro x _ hne
    rw [onehot_apply, grouped_apply]
    by_cases h3 : x.val / 128 = (32 * f.val + d.val) % 128 / 32
    · have h1 : (512 * ((32 * f.val + d.val) / 128) + x.val) / 128 = f.val := by omega
      simp only [h1]
      rw [hx, if_neg, zero_mul]
      intro e
      have e' := Nat.cast_injective (EReal.coe_injective e)
      exact hne (Fin.ext (by dsimp only; omega))
    · rw [if_neg h3, mul_zero]
  · intro h; exact absurd (Finset.mem_univ _) h

/-- The columns past the last categorical feature hold zero in the group products. -/
theorem cat_beyond (x0 : Vec Ideal S512x100 .f32) (a : FVec Ideal S26x128x32 .f32) (r : Fin 512) (k : Fin 896) (hk : 832 ≤ k.val) :
    cat x0 (grouped a) fields counter (ix2 r k) = 0 := by
  rw [cat_apply]
  refine Finset.sum_eq_zero fun x _ => ?_
  rw [grouped_apply]
  by_cases h3 : x.val / 128 = k.val % 128 / 32
  · rw [if_pos h3, dif_neg (by dsimp only; omega), mul_zero]
  · rw [if_neg h3, mul_zero]

section num
variable (x0 : Vec Ideal S512x100 .f32) (w b : FVec Ideal S74x32 .f32) (g s : FVec Ideal S32 .f32)

/-- The numerical product of the arrays that the host computed. -/
def numOf : FVec Ideal S512x2432 .f32 :=
  num x0 (stacked (scaled (centred2 w) g) (scaled (centred2 b) g)) (asRow (rowMean (centred2 w) (centred2 w)))
    (asRow (twiceMean (centred2 w) (centred2 b))) (asRow (rowMean (centred2 b) (centred2 b))) (shifts s)

/-- The columns before the first numerical feature hold zero in the numerical product. -/
theorem num_before (r : Fin 512) (k : Fin 2432) (hk : k.val < 64) : numOf x0 w b g s (ix2 r k) = 0 := by
  rw [numOf, num_apply, shifts_apply, if_neg (by omega)]
  rw [Finset.sum_eq_zero, Finset.sum_eq_zero, add_zero, add_zero]
  · intro j _
    rw [stacked_apply, dif_neg (by dsimp only; omega), spread_apply, if_neg (by dsimp only; omega), mul_zero]
  · intro j _
    rw [stacked_apply, dif_pos (by dsimp only; omega), spread_apply, if_neg (by dsimp only; omega), mul_zero]

/-- A numerical feature's columns hold its normalized affine image. -/
theorem num_feature (r : Fin 512) (j : Fin 74) (d : Fin 32)
    (hx : ∃ q : ℝ, x0 (ix2 r ⟨26 + j.val, by omega⟩) = q) (hw : ∀ d, ∃ q : ℝ, w (ix2 j d) = q) (hb : ∀ d, ∃ q : ℝ, b (ix2 j d) = q)
    (hg : ∃ q : ℝ, g (ix1 d) = q) :
    numOf x0 w b g s (ix2 r ⟨64 + (32 * j.val + d.val), by omega⟩)
      = norm (fun d => x0 (ix2 r ⟨26 + j.val, by omega⟩) * w (ix2 j d) + b (ix2 j d)) d (g (ix1 d)) (s (ix1 d)) := by
  choose qw hqw using hw
  choose qb hqb using hb
  rw [← norm_affine _ (fun d => w (ix2 j d)) (fun d => b (ix2 j d)) _ _ d hx ⟨qw, funext hqw⟩ ⟨qb, funext hqb⟩ hg]
  have e1 : (64 + (32 * j.val + d.val)) / 32 = j.val + 2 := by omega
  have e2 : (64 + (32 * j.val + d.val)) % 32 = d.val := by omega
  rw [numOf, num_apply, shifts_apply, if_pos (by dsimp only; omega), Finset.sum_eq_single j, Finset.sum_eq_single j]
  · rw [stacked_apply, stacked_apply, dif_pos (by dsimp only; omega), dif_neg (by dsimp only; omega), spread_apply, spread_apply]
    have e3 : (⟨74 + j.val - 74, by omega⟩ : Fin 74) = j := Fin.ext (by dsimp only; omega)
    have e4 : 74 + j.val - 74 = j.val := by omega
    simp only [e1, e2, e3, e4, if_true, rstd, rowMean_apply, twiceMean_apply, scaled_apply, centred2_apply]
  · intro i _ hi
    have : i.val ≠ j.val := fun e => hi (Fin.ext e)
    rw [stacked_apply, dif_neg (by dsimp only; omega), spread_apply, if_neg (by dsimp only; omega), mul_zero]
  · intro h; exact absurd (Finset.mem_univ _) h
  · intro i _ hi
    have : i.val ≠ j.val := fun e => hi (Fin.ext e)
    rw [stacked_apply, dif_pos (by dsimp only; omega), spread_apply, if_neg (by dsimp only; omega), mul_zero]
  · intro h; exact absurd (Finset.mem_univ _) h

/-- The block written, from the arrays that the host computed. -/
def outOf (a : FVec Ideal S26x128x32 .f32) : FVec Ideal S512x3200 .f32 :=
  out0_9 (F := Ideal) x0 (grouped a) fields counter (stacked (scaled (centred2 w) g) (scaled (centred2 b) g)) (asRow (rowMean (centred2 w) (centred2 w)))
    (asRow (twiceMean (centred2 w) (centred2 b))) (asRow (rowMean (centred2 b) (centred2 b))) (shifts s)

/-- A categorical feature's columns of the block. -/
theorem out_cat (a : FVec Ideal S26x128x32 .f32) (r : Fin 512) (f : Fin 26) (d : Fin 32) (n : Fin 128)
    (hx : x0 (ix2 r ⟨f.val, by omega⟩) = (((n.val : ℕ) : ℝ) : EReal)) :
    outOf x0 w b g s a (ix2 r ⟨32 * f.val + d.val, by omega⟩) = a (ix3 f n d) := by
  rw [outOf, out_apply]
  by_cases h0 : 32 * f.val + d.val < 768
  · rw [dif_pos h0]; exact cat_feature x0 a r f d n hx
  · rw [dif_neg h0, dif_pos (by dsimp only; omega)]
    refine (congrArg₂ (· + ·) (cat_feature x0 a r f d n hx) (num_before x0 w b g s r _ (by dsimp only; omega))).trans (add_zero _)

/-- A numerical feature's columns of the block. -/
theorem out_num (a : FVec Ideal S26x128x32 .f32) (r : Fin 512) (j : Fin 74) (d : Fin 32)
    (hx : ∃ q : ℝ, x0 (ix2 r ⟨26 + j.val, by omega⟩) = q) (hw : ∀ d, ∃ q : ℝ, w (ix2 j d) = q) (hb : ∀ d, ∃ q : ℝ, b (ix2 j d) = q)
    (hg : ∃ q : ℝ, g (ix1 d) = q) :
    outOf x0 w b g s a (ix2 r ⟨32 * (26 + j.val) + d.val, by omega⟩)
      = norm (fun d => x0 (ix2 r ⟨26 + j.val, by omega⟩) * w (ix2 j d) + b (ix2 j d)) d (g (ix1 d)) (s (ix1 d)) := by
  have e : (⟨32 * (26 + j.val) + d.val - 768, by omega⟩ : Fin 2432) = ⟨64 + (32 * j.val + d.val), by omega⟩ :=
    Fin.ext (by dsimp only; omega)
  have h := (congrArg (fun q => numOf x0 w b g s (ix2 r q)) e).trans (num_feature x0 w b g s r j d hx hw hb hg)
  rw [outOf, out_apply, dif_neg (by dsimp only; omega)]
  by_cases h1 : 32 * (26 + j.val) + d.val < 896
  · rw [dif_pos h1]
    exact (congrArg₂ (· + ·) (cat_beyond x0 a r _ (by dsimp only; omega)) h).trans (zero_add _)
  · rw [dif_neg h1]; exact h

end num

end Cert.KernelIdeal.Block

end
-- ==== Proof.Spec.lean ====
/-
  What the result is worth: the embeddings of a row, normalized over their lanes.
-/
module

public import proofs.«01_k».proof.Proof.Math
public import proofs.«01_k».proof.KernelIdeal
public import Idealize.ShloMosaic.Lib.Pointwise

@[expose] public section

noncomputable section

namespace Cert.KernelIdeal.Array

open Cert.KernelIdeal Cert.Norm
open Idealize.ShloMosaic

section spec
variable (x : FVec Ideal S16384x100 .f32) (t : FVec Ideal S26x100000x32 .f32) (w b : FVec Ideal S74x32 .f32)
  (g s : FVec Ideal S32 .f32) (n : Fin 16384 → Fin 26 → Fin 128)

/-- The embedding of one feature of one row: a table row for the first 26 features, an affine image for the others. -/
def emb (B : Fin 16384) (f : Fin 100) (d : Fin 32) : EReal :=
  if h : f.val < 26 then t (ix3 ⟨f.val, h⟩ ⟨(n B ⟨f.val, h⟩).val, by omega⟩ d)
  else x (ix2 B f) * w (ix2 ⟨f.val - 26, by omega⟩ d) + b (ix2 ⟨f.val - 26, by omega⟩ d)

/-- The result at a row, a feature and a lane: the embedding normalized over its lanes, scaled and shifted. -/
def at3 (B : Fin 16384) (f : Fin 100) (d : Fin 32) : EReal := norm (emb x t w b n B f) d (g (ix1 d)) (s (ix1 d))

/-- The result with features and lanes in one axis. -/
def flat : FVec Ideal S16384x3200 .f32 := fun i =>
  at3 x t w b g s n (i 0) ⟨(i 1).val / 32, by have : (i 1).val < 3200 := (i 1).isLt; omega⟩ ⟨(i 1).val % 32, Nat.mod_lt _ (by norm_num)⟩

/-- What the result is worth as an array. -/
def whole : FVec Ideal S16384x100x32 .f32 := fun i => at3 x t w b g s n (i 0) (i 1) (i 2)

/-- What the precondition gives: the categorical columns hold the numbers `n`; the numerical columns, the weights, the biases and
    the scale are real. -/
structure Fits : Prop where
  cat : ∀ B f, x (ix2 B ⟨f.val, by omega⟩) = ((((n B f).val : ℕ) : ℝ) : EReal)
  num : ∀ B (f : Fin 100), 26 ≤ f.val → ∃ q : ℝ, x (ix2 B f) = q
  weight : ∀ j d, ∃ q : ℝ, w (ix2 j d) = q
  bias : ∀ j d, ∃ q : ℝ, b (ix2 j d) = q
  scale : ∀ d, ∃ q : ℝ, g (ix1 d) = q

end spec

end Cert.KernelIdeal.Array

end
-- ==== Proof.PrepRead.lean ====
/-
  What the kernel's windows read when the kernel starts: the prepared arrays of the arguments.
-/
module

public import proofs.«01_k».proof.Proof.Prep
public import proofs.«01_k».proof.Proof.Gen.KernelIdeal.Frame
public import Idealize.ShloMosaic.Lib.StableHlo.RunRead
public import Idealize.ShloMosaic.Lib.Pointwise
public import Idealize.ShloMosaic.PureOps.Ideal.Laws

@[expose] public section

set_option maxRecDepth 16384

noncomputable section

namespace Cert.KernelIdeal.Prep

open Cert.KernelIdeal Cert.KernelIdeal.Gen Idealize.ShloMosaic Idealize.ShloMosaic.TcCoe Idealize.SL.Sem

variable (m : (ℓ : Loc nD τ sig) → Buf (Elt Ideal) ℓ) (c : Dev nD)

/-- The kernel's table window reads the grouped normalized tables. -/
theorem V_v136 : V m c main_v136 = grouped (tabn (m ((c : Thread nD τ).loc main_arg1)) (m ((c : Thread nD τ).loc main_arg4))
    (m ((c : Thread nD τ).loc main_arg5))) := by
  unfold_abbrev_sides
  after_reads_simp
  rfl

/-- The kernel's field window reads the field table. -/
theorem V_v137 : V m c main_v137 = fields := by
  unfold_abbrev_sides
  after_reads_simp
  rfl

/-- The kernel's counter window reads the repeated numbers. -/
theorem V_v52 : V m c main_v52 = counter := by
  unfold_abbrev_sides
  after_reads_simp
  rfl

/-- The kernel's weight window reads the scaled centred weights above the scaled centred biases. -/
theorem V_v138 : V m c main_v138 = stacked
    (scaled (centred2 (m ((c : Thread nD τ).loc main_arg2))) (m ((c : Thread nD τ).loc main_arg4)))
    (scaled (centred2 (m ((c : Thread nD τ).loc main_arg3))) (m ((c : Thread nD τ).loc main_arg4))) := by
  unfold_abbrev_sides
  after_reads_simp
  have h1 : StableHlo.upto (List.flatten [hostOps0]) (fun b => m (c, b)) 155 (Proc.devRef .tc main_v121)
      = spread (scaled (centred2 (m ((c : Thread nD τ).loc main_arg2))) (m ((c : Thread nD τ).loc main_arg4))) := by
    after_reads_simp
    rfl
  have h2 : StableHlo.upto (List.flatten [hostOps0]) (fun b => m (c, b)) 155 (Proc.devRef .tc main_v128)
      = spread (scaled (centred2 (m ((c : Thread nD τ).loc main_arg3))) (m ((c : Thread nD τ).loc main_arg4))) := by
    after_reads_simp
    rfl
  exact congrArg₂ (fun a b => truncf .bf16 (concatenate S148x2432 0 [⟨S74x2432, a⟩, ⟨S74x2432, b⟩]
    concatenates_S74x2432_S74x2432_S148x2432_d0) bitsLt_bf16_f32) h1 h2

/-- The quadratic coefficients of the variances. -/
theorem V_v69 : V m c main_v69 = asRow (rowMean (centred2 (m ((c : Thread nD τ).loc main_arg2)))
    (centred2 (m ((c : Thread nD τ).loc main_arg2)))) := by
  unfold_abbrev_sides
  after_reads_simp
  rfl

/-- The linear coefficients of the variances. -/
theorem V_v76 : V m c main_v76 = asRow (twiceMean (centred2 (m ((c : Thread nD τ).loc main_arg2)))
    (centred2 (m ((c : Thread nD τ).loc main_arg3)))) := by
  unfold_abbrev_sides
  after_reads_simp
  rfl

/-- The constant coefficients of the variances. -/
theorem V_v81 : V m c main_v81 = asRow (rowMean (centred2 (m ((c : Thread nD τ).loc main_arg3)))
    (centred2 (m ((c : Thread nD τ).loc main_arg3)))) := by
  unfold_abbrev_sides
  after_reads_simp
  rfl

/-- The kernel's shift window reads the repeated shift. -/
theorem V_v135 : V m c main_v135 = shifts (m ((c : Thread nD τ).loc main_arg5)) := by
  unfold_abbrev_sides
  after_reads_simp
  rfl

end Cert.KernelIdeal.Prep

end
-- ==== Proof.Array.lean ====
/-
  The array that the launch writes: every row and column of it as a normalized embedding.
-/
module

public import proofs.«01_k».proof.Proof.Column
public import proofs.«01_k».proof.Proof.Spec
public import proofs.«01_k».proof.Proof.PrepRead
public import Idealize.ShloMosaic.Lib.Pipeline.ValueKit
public import Idealize.ShloMosaic.Lib.StableHlo.RunRead

@[expose] public section

set_option maxRecDepth 16384

noncomputable section

namespace Cert.KernelIdeal.Array

open Cert.KernelIdeal Cert.KernelIdeal.Gen Cert.KernelIdeal.Prep Cert.KernelIdeal.Block Cert.Norm
open Idealize.ShloMosaic Idealize.ShloMosaic.TcCoe Idealize.ShloMosaic.StableHlo

section spec
variable (x : FVec Ideal S16384x100 .f32) (t : FVec Ideal S26x100000x32 .f32) (w b : FVec Ideal S74x32 .f32)
  (g s : FVec Ideal S32 .f32) (n : Fin 16384 → Fin 26 → Fin 128)

/-- A block computed from 512 rows of the numbers holds the result at those rows. -/
theorem out_value (h : Fits x w b g n) (x0 : Vec Ideal S512x100 .f32) (B : Fin 16384) (r : Fin 512)
    (hx : ∀ f, x0 (ix2 r f) = x (ix2 B f)) (l : Fin 3200) :
    outOf x0 w b g s (tabn t g s) (ix2 r l)
      = at3 x t w b g s n B ⟨l.val / 32, by omega⟩ ⟨l.val % 32, Nat.mod_lt _ (by norm_num)⟩ := by
  by_cases hl : l.val / 32 < 26
  · have e : l = ⟨32 * (⟨l.val / 32, hl⟩ : Fin 26).val + (⟨l.val % 32, Nat.mod_lt _ (by norm_num)⟩ : Fin 32).val,
        by dsimp only; omega⟩ := Fin.ext (by dsimp only; omega)
    refine (congrArg (fun q => outOf x0 w b g s (tabn t g s) (ix2 r q)) e).trans ?_
    rw [out_cat x0 w b g s (tabn t g s) r ⟨l.val / 32, hl⟩ ⟨l.val % 32, Nat.mod_lt _ (by norm_num)⟩ (n B ⟨l.val / 32, hl⟩)
      ((hx _).trans (h.cat B ⟨l.val / 32, hl⟩)), tabn_apply, at3]
    congr 1
    funext d
    rw [emb, dif_pos hl]
  · have e : l = ⟨32 * (26 + (⟨l.val / 32 - 26, by omega⟩ : Fin 74).val) + (⟨l.val % 32, Nat.mod_lt _ (by norm_num)⟩ : Fin 32).val,
        by dsimp only; omega⟩ := Fin.ext (by dsimp only; omega)
    refine (congrArg (fun q => outOf x0 w b g s (tabn t g s) (ix2 r q)) e).trans ?_
    have ef : (⟨26 + (l.val / 32 - 26), by omega⟩ : Fin 100) = ⟨l.val / 32, by omega⟩ := Fin.ext (by dsimp only; omega)
    have hv : x0 (ix2 r ⟨26 + (⟨l.val / 32 - 26, by omega⟩ : Fin 74).val, by dsimp only; omega⟩) = x (ix2 B ⟨l.val / 32, by omega⟩) :=
      (hx _).trans (congrArg (fun q => x (ix2 B q)) ef)
    rw [out_num x0 w b g s (tabn t g s) r ⟨l.val / 32 - 26, by omega⟩ ⟨l.val % 32, Nat.mod_lt _ (by norm_num)⟩
      (by rw [hv]; exact h.num B _ (by dsimp only; omega)) (h.weight _) (h.bias _) (h.scale _), hv, at3]
    congr 1
    funext d
    rw [emb, dif_neg hl]

end spec

section run
variable (m : (ℓ : Loc nD τ sig) → Buf (Elt Ideal) ℓ) (c : Dev nD)

/-- Where each window's block sits: the rows' windows at their point, the others at the start of their array. -/
theorem idx : ∀ t : Fin grid0.N, win0_0.index t = ![t.val, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] := by decide +kernel

set_option maxHeartbeats 2000000 in
/-- The windows of the prepared arrays read an array whole at every point. -/
theorem reads (t : Fin cfg0.N) :
    (∀ X : Vec Ideal S7x512x128 .bf16, ((cfg0.win 1).blk t).view.read (Elt Ideal) X = X)
    ∧ (∀ X : Vec Ideal S28x3584 .bf16, ((cfg0.win 2).blk t).view.read (Elt Ideal) X = X)
    ∧ (∀ X : Vec Ideal S1x3584 .f32, ((cfg0.win 3).blk t).view.read (Elt Ideal) X = X)
    ∧ (∀ X : Vec Ideal S148x2432 .bf16, ((cfg0.win 4).blk t).view.read (Elt Ideal) X = X)
    ∧ (∀ X : Vec Ideal S1x74 .f32, ((cfg0.win 5).blk t).view.read (Elt Ideal) X = X)
    ∧ (∀ X : Vec Ideal S1x74 .f32, ((cfg0.win 6).blk t).view.read (Elt Ideal) X = X)
    ∧ (∀ X : Vec Ideal S1x74 .f32, ((cfg0.win 7).blk t).view.read (Elt Ideal) X = X)
    ∧ (∀ X : Vec Ideal S1x2432 .f32, ((cfg0.win 8).blk t).view.read (Elt Ideal) X = X) := by
  refine ⟨?_, ?_, ?_, ?_, ?_, ?_, ?_, ?_⟩ <;> (intro X; funext y; blk_ext [idx t])

/-- So their blocks are the prepared arrays. -/
theorem blocks (t : Fin cfg0.N) : iblk m c 1 t = V m c main_v136 ∧ iblk m c 2 t = V m c main_v137 ∧ iblk m c 3 t = V m c main_v52
    ∧ iblk m c 4 t = V m c main_v138 ∧ iblk m c 5 t = V m c main_v69 ∧ iblk m c 6 t = V m c main_v76 ∧ iblk m c 7 t = V m c main_v81
    ∧ iblk m c 8 t = V m c main_v135 := by
  obtain ⟨r1, r2, r3, r4, r5, r6, r7, r8⟩ := reads t
  exact ⟨r1 _, r2 _, r3 _, r4 _, r5 _, r6 _, r7 _, r8 _⟩

/-- The window of the numbers reads 512 of their rows. -/
theorem block0 (t : Fin cfg0.N) (r : Fin 512) (f : Fin 100) :
    iblk m c 0 t (ix2 r f) = m ((c : Thread nD τ).loc main_arg0) (ix2 ⟨512 * t.val + r.val, by have : t.val < 32 := t.isLt; omega⟩ f) := by
  rw [← V_main_arg0 m c]
  blk_ext [iblk, idx t]

/-- The result with features and lanes in one axis, of the arguments. -/
abbrev flatOf (n : Fin 16384 → Fin 26 → Fin 128) : FVec Ideal S16384x3200 .f32 :=
  flat (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) n

/-- The array that the launch writes. -/
theorem final (n : Fin 16384 → Fin 26 → Fin 128)
    (h : Fits (m ((c : Thread nD τ).loc main_arg0)) (m ((c : Thread nD τ).loc main_arg2)) (m ((c : Thread nD τ).loc main_arg3))
      (m ((c : Thread nD τ).loc main_arg4)) n) :
    (dats m 0 c).arrAt 9 cfg0.N = flatOf m c n := by
  refine (dats m 0 c).arrAt_eq_of_covers 9 _ (by decide +kernel) fun t hf y => ?_
  rw [after0_9]
  obtain ⟨b1, b2, b3, b4, b5, b6, b7, b8⟩ := blocks m c t
  rw [b1, b2, b3, b4, b5, b6, b7, b8, V_v136, V_v137, V_v52, V_v138, V_v69, V_v76, V_v81, V_v135]
  blk_simp [idx t]
  obtain ⟨r, l, rfl⟩ : ∃ (r : Fin 512) (l : Fin 3200), y = ix2 r l := ⟨y 0, y 1, by funext a; fin_cases a <;> rfl⟩
  have ht : t.val < 32 := t.isLt
  have e : (win0_9.blk t).view.emb (ix2 r l) = ix2 ⟨512 * t.val + r.val, by omega⟩ l := by blk_ext [idx t]
  rw [e]
  exact out_value _ _ _ _ _ _ n h (iblk m c 0 t) ⟨512 * t.val + r.val, by omega⟩ r (fun f => block0 m c t r f) l

/-- The result of the program, from the array that the launch writes. -/
theorem tail_eq : Pipeline.afterTail₀ cfgs (dats m) 0 (V0 m) [hostOps1] c main_v140
    = shapeCast S16384x100x32 ((dats m 0 c).arrAt 9 cfg0.N) shapeCasts_S16384x3200_S16384x100x32 := by
  unfold Pipeline.afterTail₀
  after_reads_simp
  have e : Pipeline.withArrays (cfgs 0).spec c (V0 m c) (fun w => (dats m 0 c).arrAt w (cfgs 0).N) (Proc.devRef .tc main_v139)
      = (dats m 0 c).arrAt 9 cfg0.N := Pipeline.withArrays_arr (cfgs 0).spec launch0.win.arr_inj c (V0 m c) _ 9
  rw [e]
  rfl

/-- The result of the program. -/
theorem result (n : Fin 16384 → Fin 26 → Fin 128)
    (h : Fits (m ((c : Thread nD τ).loc main_arg0)) (m ((c : Thread nD τ).loc main_arg2)) (m ((c : Thread nD τ).loc main_arg3))
      (m ((c : Thread nD τ).loc main_arg4)) n) :
    Pipeline.afterTail₀ cfgs (dats m) 0 (V0 m) [hostOps1] c main_v140
      = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) n := by
  rw [tail_eq, final m c n h]
  funext i
  obtain ⟨B, f, d, rfl⟩ : ∃ (B : Fin 16384) (f : Fin 100) (d : Fin 32), i = ix3 B f d :=
    ⟨i 0, i 1, i 2, by funext a; fin_cases a <;> rfl⟩
  pointwise
  have e1 : (f.val * 32 + d.val) / 32 = f.val := by omega
  have e2 : (f.val * 32 + d.val) % 32 = d.val := by omega
  exact congrArg₂ (fun p q => at3 _ _ _ _ _ _ n B p q) (Fin.ext e1) (Fin.ext e2)

end run

end Cert.KernelIdeal.Array

end
-- ==== Proof.Ref.lean ====
/-
  The reference's result, read at an index: the same embeddings, normalized the same way.
-/
module

public import proofs.«01_k».proof.Proof.Spec
public import proofs.«01_k».proof.Proof.Gen.ReferenceIdeal.Read
public import Idealize.ShloMosaic.Lib.Pointwise

@[expose] public section

set_option maxRecDepth 16384

noncomputable section

namespace Cert.ReferenceIdeal.Result

open Cert.ReferenceIdeal Cert.ReferenceIdeal.Gen Cert.ReferenceIdeal.Read Cert.Norm
open Cert.KernelIdeal.Array (emb at3 whole Fits)
open Idealize.ShloMosaic

/-- The lookup at a row, a feature and a lane reads the table at the pair of words held for that row and feature. -/
theorem lookup (t : FVec Ideal S26x100000x32 .f32) (q : IVec S16384x26x2 32) (B : Fin 16384) (f : Fin 26) (d : Fin 32) :
    Host.gather gather_S26x100000x32_S16384x26x2_S16384x26x32_2_01_n_n_01_2_1132 t q (ix3 B f d)
      = t (ix3 ⟨min (q (ix3 B f 0)).toInt.toNat 25, by omega⟩ ⟨min (q (ix3 B f 1)).toInt.toNat 99999, by omega⟩ d) := by
  unfold Host.gather
  congr 1
  funext a
  refine Fin.ext ?_
  show GatherDims.start _ _ q a + GatherDims.batchCoord _ _ a + GatherDims.offCoord _ _ a = _
  have s0 : ∀ h, GatherDims.siIdx gather_S26x100000x32_S16384x26x2_S16384x26x32_2_01_n_n_01_2_1132 (ix3 B f d) ⟨0, h⟩ = ix3 B f 0 := by
    intro h; funext b; refine Fin.ext ?_
    match b with
    | ⟨0, _⟩ => rfl
    | ⟨1, _⟩ => rfl
    | ⟨2, _⟩ => rfl
  have s1 : ∀ h, GatherDims.siIdx gather_S26x100000x32_S16384x26x2_S16384x26x32_2_01_n_n_01_2_1132 (ix3 B f d) ⟨1, h⟩ = ix3 B f 1 := by
    intro h; funext b; refine Fin.ext ?_
    match b with
    | ⟨0, _⟩ => rfl
    | ⟨1, _⟩ => rfl
    | ⟨2, _⟩ => rfl
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun h => ((GatherDims.mem_sKept _ _).mp h).1 (by decide))]
    unfold GatherDims.start
    rw [dif_pos (by decide)]
    exact congrArg (fun z => min (q z).toInt.toNat 25) (s0 _)
  · rw [GatherDims.offCoord_eq_zero _ _ _ (fun h => ((GatherDims.mem_sKept _ _).mp h).1 (by decide))]
    unfold GatherDims.start
    rw [dif_pos (by decide)]
    exact congrArg (fun z => min (q z).toInt.toNat 99999) (s1 _)
  · unfold GatherDims.start
    rw [dif_neg (by decide), Nat.add_zero, Nat.zero_add]
    unfold GatherDims.offCoord
    rw [dif_pos (by decide)]
    rfl

/-- A small natural number, as a 32-bit word. -/
theorem word (n : Fin 128) : Ideal.fptosi 32 (((n.val : ℕ) : ℝ) : EReal) = BitVec.ofNat 32 n.val := by
  show BitVec.ofInt 32 (max _ (min _ (if (0 : ℝ) ≤ ((n.val : ℕ) : ℝ) then ⌊((n.val : ℕ) : ℝ)⌋ else ⌈((n.val : ℕ) : ℝ)⌉))) = _
  rw [if_pos (Nat.cast_nonneg _), Int.floor_natCast, min_eq_right (by omega), max_eq_right (by omega)]
  exact BitVec.ofInt_natCast _ _

/-- A small word isn't negative. -/
theorem not_neg : ∀ n : Fin 128, IntOp.cmpi .slt (BitVec.ofNat 32 n.val) 0#32 = 0#1 := by decide

/-- So its wrapped form is the word itself. -/
theorem unwrapped (n : Fin 128) (q : BitVec 32) :
    Scalar.select (IntOp.cmpi .slt (BitVec.ofNat 32 n.val) 0#32) q (BitVec.ofNat 32 n.val) = BitVec.ofNat 32 n.val := by
  rw [not_neg, ValueIdx.select_zero]

/-- Read signed, it is the number. -/
theorem signed : ∀ n : Fin 128, (BitVec.ofNat 32 n.val).toInt.toNat = n.val := by decide

variable (x : FVec Ideal S16384x100 .f32) (t : FVec Ideal S26x100000x32 .f32) (w b : FVec Ideal S74x32 .f32)
  (g s : FVec Ideal S32 .f32) (n : Fin 16384 → Fin 26 → Fin 128)

/-- The first word held for a row and feature is the feature. -/
theorem pair0 (B : Fin 16384) (f : Fin 26) : val_main_v17 (F := Ideal) x (ix3 B f 0) = BitVec.ofNat 32 f.val := by
  pointwise [val_main_v17, val_main_v15, val_main_v14, val_main_v8, val_main_v5, val_main_v7, val_main_v3, val_main_v4, val_main_v6, val_main_v2, val_main_c, val_main_c_0]
  exact unwrapped ⟨f.val, by omega⟩ _

/-- The second is the number in the feature's column. -/
theorem pair1 (B : Fin 16384) (f : Fin 26) (h : x (ix2 B ⟨f.val, by omega⟩) = ((((n B f).val : ℕ) : ℝ) : EReal)) :
    val_main_v17 (F := Ideal) x (ix3 B f 1) = BitVec.ofNat 32 (n B f).val := by
  pointwise [val_main_v17, val_main_v16, val_main_v15, val_main_v13, val_main_v10, val_main_v12, val_main_v1, val_main_v9, val_main_v11, val_main_v0, val_main_c_1, val_main_c_2]
  rw [h]
  show Scalar.select (IntOp.cmpi .slt (Ideal.fptosi 32 _) _) (IntOp.addi (Ideal.fptosi 32 _) _) (Ideal.fptosi 32 _) = _
  rw [word]
  exact unwrapped _ _

/-- From the embeddings on, the reference normalizes over the lanes. -/
theorem normal (y : FVec Ideal S16384x100x32 .f32) (e : val_main_v28 (F := Ideal) x t w b = y) (B : Fin 16384) (f : Fin 100) (d : Fin 32) :
    val_main_v52 (F := Ideal) x t w b g s (ix3 B f d) = norm (fun d => y (ix3 B f d)) d (g (ix1 d)) (s (ix1 d)) := by
  subst e
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_cst, val_main_cst_3, val_main_cst_4, val_main_cst_5, val_main_cst_6]
  rfl

/-- The looked-up row. -/
theorem looked (h : Fits x w b g n) (B : Fin 16384) (f : Fin 26) (d : Fin 32) :
    val_main_v18 (F := Ideal) x t (ix3 B f d) = t (ix3 f ⟨(n B f).val, by omega⟩ d) := by
  refine (lookup t _ B f d).trans (congrArg t ?_)
  funext a
  refine Fin.ext ?_
  match a with
  | ⟨0, _⟩ =>
    exact (congrArg (fun q : BitVec 32 => min q.toInt.toNat 25) (pair0 x B f)).trans
      ((congrArg (min · 25) (signed ⟨f.val, by omega⟩)).trans (min_eq_left (by dsimp only; omega)))
  | ⟨1, _⟩ =>
    exact (congrArg (fun q : BitVec 32 => min q.toInt.toNat 99999) (pair1 x n B f (h.cat B f))).trans
      ((congrArg (min · 99999) (signed (n B f))).trans (min_eq_left (by omega)))
  | ⟨2, _⟩ => rfl

/-- The affine image. -/
theorem affine (B : Fin 16384) (f : Fin 74) (d : Fin 32) :
    val_main_v27 (F := Ideal) x w b (ix3 B f d) = x (ix2 B ⟨26 + f.val, by omega⟩) * w (ix2 f d) + b (ix2 f d) := by
  pointwise [val_main_v27, val_main_v26, val_main_v25, val_main_v24, val_main_v23, val_main_v22, val_main_v21, val_main_v20, val_main_v19]

/-- The reference's embeddings. -/
theorem joined (B : Fin 16384) (f : Fin 100) (d : Fin 32) (h : Fits x w b g n) :
    val_main_v28 (F := Ideal) x t w b (ix3 B f d) = emb x t w b n B f d := by
  by_cases hf : f.val < 26
  · rw [emb, dif_pos hf]
    pointwise [val_main_v28]
    exact (dif_pos hf).trans ((looked x t w b g n h B ⟨f.val, hf⟩ d))
  · rw [emb, dif_neg hf]
    pointwise [val_main_v28]
    refine (dif_neg hf).trans ((affine x w b B ⟨f.val - 26, by omega⟩ d).trans ?_)
    have e : (⟨26 + (f.val - 26), by omega⟩ : Fin 100) = f := Fin.ext (by dsimp only; omega)
    exact congrArg (fun q => x (ix2 B q) * w (ix2 ⟨f.val - 26, by omega⟩ d) + b (ix2 ⟨f.val - 26, by omega⟩ d)) e

/-- The reference's result is the normalized embeddings. -/
theorem result (h : Fits x w b g n) : val_main_v52 (F := Ideal) x t w b g s = whole x t w b g s n := by
  funext i
  obtain ⟨B, f, d, rfl⟩ : ∃ (B : Fin 16384) (f : Fin 100) (d : Fin 32), i = ix3 B f d :=
    ⟨i 0, i 1, i 2, by funext a; fin_cases a <;> rfl⟩
  rw [normal x t w b g s _ rfl]
  show norm _ d _ _ = norm (emb x t w b n B f) d (g (ix1 d)) (s (ix1 d))
  congr 1
  funext d
  exact joined x t w b g n B f d h

end Cert.ReferenceIdeal.Result

end
-- ==== Proof.Pre.lean ====
/-
  The precondition, decoded: the first 26 columns hold whole numbers from 0 to 127, and what enters the affine features and
  the scale is real.
-/
module

public import proofs.«01_k».proof.Proof.Spec
public import proofs.«01_k».proof.Pre_inputs_fit
public import Idealize.ShloMosaic.Lib.Pointwise
public import Idealize.ShloMosaic.Lib.ReduceAll

@[expose] public section

set_option maxRecDepth 16384

noncomputable section

namespace Cert.Pre_inputs_fit.Decode

open Cert.Pre_inputs_fit Cert.Pre_inputs_fit.Facts
open Cert.KernelIdeal.Array (Fits)
open Idealize.ShloMosaic

/-- The shape conditions that the precondition's operations state. -/
instance facts : Facts where
  slices_S16384x100_S16384x26_0_0 := by decide
  bcast_S_S16384x26 := by decide
  reducesTo_S16384x26_S_d0_1 := by decide
  h_S_ := by decide
  slices_S16384x100_S16384x74_0_26 := by decide
  bcast_S_S16384x74 := by decide
  reducesTo_S16384x74_S_d0_1 := by decide
  bcast_S_S74x32 := by decide
  reducesTo_S74x32_S_d0_1 := by decide
  bcast_S_S32 := by decide
  reducesTo_S32_S_d0 := by decide

/-- The bound on the indices is 128. -/
theorem lit128 : Ideal.ofBits .f32 0x43000000#32 = ((128 : ℝ) : EReal) := by
  simp [Ideal.ofBits, Ideal.ieee, -EReal.coe_mul]; norm_num

/-- The bound on the magnitudes is infinity. -/
theorem litInf : Ideal.ofBits .f32 0x7F800000#32 = ⊤ := by
  simp [Ideal.ofBits, Ideal.ieee]

/-- Two bits whose conjunction is set are both set. -/
theorem and_one : ∀ {p q : BitVec 1}, IntOp.andi p q = 1#1 → p = 1#1 ∧ q = 1#1 := by decide

/-- So are the five of the precondition's last conjunction. -/
theorem and_five {p q r u v : BitVec 1} (h : IntOp.andi (IntOp.andi (IntOp.andi (IntOp.andi p q) r) u) v = 1#1) :
    (((p = 1#1 ∧ q = 1#1) ∧ r = 1#1) ∧ u = 1#1) ∧ v = 1#1 :=
  ⟨⟨⟨and_one (and_one (and_one (and_one h).1).1).1, (and_one (and_one (and_one h).1).1).2⟩, (and_one (and_one h).1).2⟩, (and_one h).2⟩

/-- A decided bit that is set decides a truth. -/
theorem true_of_bit {p : Prop} [Decidable p] (h : BitVec.ofBool (decide p) = 1#1) : p := by
  by_contra hp
  rw [decide_eq_false hp] at h
  exact absurd h (by decide)

/-- A number of finite magnitude is real. -/
theorem real (a : EReal) (h : max a (-a) < Ideal.ofBits .f32 0x7F800000#32) : ∃ q : ℝ, a = q := by
  rw [litInf] at h
  induction a using EReal.rec with
  | bot => exact absurd h (by simp)
  | top => exact absurd h (by simp)
  | coe q => exact ⟨q, rfl⟩

/-- A number that is its own floor, at least 0 and below 128, is a natural number below 128. -/
theorem natural (a : EReal) (h1 : Ideal.liftRound Int.floor a = a) (h2 : 0 ≤ a) (h3 : a < Ideal.ofBits .f32 0x43000000#32) :
    ∃ n : Fin 128, a = (((n.val : ℕ) : ℝ) : EReal) := by
  rw [lit128] at h3
  induction a using EReal.rec with
  | bot => exact absurd h2 (by simp)
  | top => exact absurd h3 (by simp)
  | coe q =>
    have e : ((⌊q⌋ : ℤ) : ℝ) = q := EReal.coe_injective h1
    have p2 : (0 : ℝ) ≤ q := by exact_mod_cast h2
    have p3 : q < 128 := by exact_mod_cast h3
    have f2 : 0 ≤ ⌊q⌋ := Int.floor_nonneg.mpr p2
    have f3 : ⌊q⌋ < 128 := Int.floor_lt.mpr (by exact_mod_cast p3)
    refine ⟨⟨⌊q⌋.toNat, by omega⟩, congrArg Real.toEReal (e.symm.trans ?_)⟩
    exact_mod_cast congrArg (fun z : ℤ => (z : ℝ)) (Int.toNat_of_nonneg f2).symm

/-- The precondition gives what the values' proof asks. -/
theorem fits (x : FVec Ideal S16384x100 .f32) (t : FVec Ideal S26x100000x32 .f32) (w b : FVec Ideal S74x32 .f32)
    (g s : FVec Ideal S32 .f32) (h : fn (F := Ideal) x t w b g s = fun _ => 1#1) : ∃ n, Fits x w b g n := by
  have h0 := congrFun h ix0
  dsimp only [fn, fn_part1] at h0
  change IntOp.andi (IntOp.andi (IntOp.andi (IntOp.andi _ _) _) _) _ = 1#1 at h0
  obtain ⟨⟨⟨⟨hc, hn⟩, hw⟩, hb⟩, hg⟩ := and_five h0
  clear h h0
  replace hc := fun B f => Host.reduce_andi_all _ _ _ _ _ hc (ix2 B f)
  replace hn := fun B f => Host.reduce_andi_all _ _ _ _ _ hn (ix2 B f)
  replace hw := fun B f => Host.reduce_andi_all _ _ _ _ _ hw (ix2 B f)
  replace hb := fun B f => Host.reduce_andi_all _ _ _ _ _ hb (ix2 B f)
  replace hg := fun d => Host.reduce_andi_all _ _ _ _ _ hg (ix1 d)
  have hc' : ∀ (B : Fin 16384) (f : Fin 26), ∃ n : Fin 128, x (ix2 B ⟨f.val, by omega⟩) = (((n.val : ℕ) : ℝ) : EReal) := by
    intro B f
    have q := hc B f
    clear hc hn hw hb hg
    pointwise [] at q
    obtain ⟨q1, q3⟩ := and_one q
    exact natural _ (true_of_bit (and_one q1).1) (true_of_bit (and_one q1).2) (true_of_bit q3)
  have hn' : ∀ B (f : Fin 74), ∃ q : ℝ, x (ix2 B ⟨26 + f.val, by omega⟩) = q := by
    intro B f
    have q := hn B f
    clear hc hn hw hb hg
    pointwise [] at q
    exact real _ (true_of_bit q)
  have hw' : ∀ j d, ∃ q : ℝ, w (ix2 j d) = q := by
    intro B f
    have q := hw B f
    clear hc hn hw hb hg
    pointwise [] at q
    exact real _ (true_of_bit q)
  have hb' : ∀ j d, ∃ q : ℝ, b (ix2 j d) = q := by
    intro B f
    have q := hb B f
    clear hc hn hw hb hg
    pointwise [] at q
    exact real _ (true_of_bit q)
  have hg' : ∀ d, ∃ q : ℝ, g (ix1 d) = q := by
    intro B
    have q := hg B
    clear hc hn hw hb hg
    pointwise [] at q
    exact real _ (true_of_bit q)
  choose n hx using hc'
  refine ⟨n, hx, fun B f hf => ?_, hw', hb', hg'⟩
  obtain ⟨q, e⟩ := hn' B ⟨f.val - 26, by omega⟩
  have e' : (⟨26 + (f.val - 26), by omega⟩ : Fin 100) = f := Fin.ext (by dsimp only; omega)
  exact ⟨q, (congrArg (fun z => x (ix2 B z)) e').symm.trans e⟩

end Cert.Pre_inputs_fit.Decode

end
-- ==== Proof.lean ====
/-
  The kernel's three frames, the preservation of its idealized form, and its equality with the reference over the extended
  reals: the two runs end in the same array, the normalized embeddings of Proof/Spec.lean.
-/
module

public import proofs.«01_k».proof.Defs
public import proofs.«01_k».proof.Proof.Gen.Kernel.Frame
public import proofs.«01_k».proof.Proof.Gen.KernelIdeal.Frame
public import proofs.«01_k».proof.Proof.Array
public import proofs.«01_k».proof.Proof.Ref
public import proofs.«01_k».proof.Proof.Pre
public import Idealize.ShloMosaic.Adequacy
public import Idealize.ShloMosaic.Init

@[expose] public section

noncomputable section

namespace Cert.Proof

open Idealize.ShloMosaic Idealize.SL.Sem

/-- The kernel, as printed, runs to the end, leaves its arguments unchanged and its semaphores at zero. -/
theorem frame_kernel : Cert.quiescent_Kernel := fun m ρ _ => Cert.Kernel.Gen.frame m ρ

/-- So does the kernel read over the extended reals. -/
theorem frame_ideal : Cert.quiescent_KernelIdeal := fun m ρ _ => Cert.KernelIdeal.Gen.frame m ρ

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition the kernel and the reference end in equal results, element by element, over the extended reals. -/
theorem algebraic : Cert.algebraic_KernelIdeal_ReferenceIdeal_pre_inputs_fit := by
  intro m ρ m' ρ' hpre hagree
  have hfit := fun c => Cert.Pre_inputs_fit.Decode.fits _ _ _ _ _ _ (hpre c)
  choose n hn using hfit
  refine ⟨fun c => Cert.KernelIdeal.Array.whole (m ((c.tc : Thread _ _).loc Cert.KernelIdeal.main_arg0)) (m ((c.tc : Thread _ _).loc Cert.KernelIdeal.main_arg1)) (m ((c.tc : Thread _ _).loc Cert.KernelIdeal.main_arg2))
    (m ((c.tc : Thread _ _).loc Cert.KernelIdeal.main_arg3)) (m ((c.tc : Thread _ _).loc Cert.KernelIdeal.main_arg4)) (m ((c.tc : Thread _ _).loc Cert.KernelIdeal.main_arg5)) (n c), ?_, ?_⟩
  · refine (θ_run Cert.KernelIdeal.defs _ _).mono (fun r h c => ⟨?_, h.2 c⟩)
      (θ_run_and (Cert.KernelIdeal.Gen.run_main (F := Ideal) m ρ) (Cert.KernelIdeal.Gen.unchanged (F := Ideal) m ρ))
    exact ((h.1 c).2 Cert.KernelIdeal.main_v140 (Pipeline.mem_restRefs_of Cert.KernelIdeal.main_v140 (by decide) (by decide))).trans
      (Cert.KernelIdeal.Array.result m c (n c) (hn c))
  · refine (θ_run Cert.ReferenceIdeal.defs _ _).mono (fun r h c => ⟨?_, (h c).2⟩)
      (Cert.ReferenceIdeal.Value.run (F := Ideal) m' ρ')
    refine ((h c).1.trans (Cert.ReferenceIdeal.Read.val_main_v52_eq m' c)).trans ?_
    obtain ⟨a0, a1, a2, a3, a4, a5⟩ := hagree c
    rw [a0, a1, a2, a3, a4, a5]
    exact Cert.ReferenceIdeal.Result.result _ _ _ _ _ _ (n c) (hn c)

/-- Every claim of this certificate. -/
theorem claim : Cert.Claim :=
  ⟨Cert.Kernel.Gen.facts, Cert.KernelIdeal.Gen.facts, Cert.ReferenceIdeal.Gen.facts, Cert.Pre_inputs_fit.Decode.facts,
    frame_kernel, frame_ideal, fun m ρ _ => frame_ideal m ρ trivial, frame_reference, fun m ρ _ => frame_reference m ρ trivial,
    trivial, algebraic⟩

end Cert.Proof

end
